-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16x13x256x256 : Shape := ⟨4, ![16, 13, 256, 256]⟩
abbrev S16x256x256 : Shape := ⟨3, ![16, 256, 256]⟩
abbrev S_ : Shape := ⟨0, ![]⟩

class Facts : Prop where
  bcast_S_S16x13x256x256 : S_.BroadcastsInDim S16x13x256x256 (![] : Fin 0 → Fin S16x13x256x256.rank)
  reducesTo_S16x13x256x256_S_d0_1_2_3 : S16x13x256x256.ReducesTo [0, 1, 2, 3] S_
  h_S_ : 0 < S_.numel
  bcast_S_S16x256x256 : S_.BroadcastsInDim S16x256x256 (![] : Fin 0 → Fin S16x256x256.rank)
  reducesTo_S16x256x256_S_d0_1_2 : S16x256x256.ReducesTo [0, 1, 2] S_

variable [Facts]

def fn_part1 {F : FTy → Type} [FloatOps F] (main_arg2 : IVec S16x256x256 32) (main_v12 : IVec S_ 1) (main_v14 : IVec S16x256x256 1) (main_v15 : IVec S16x256x256 32) : IVec S_ 1 :=
  let main_v16 : IVec S16x256x256 1 := cmpi .slt main_arg2 main_v15
  let main_v17 : IVec S16x256x256 1 := andi main_v14 main_v16
  let main_c_6 : IVec S_ 1 := constantI S_ 1 1#1
  let main_v18 : IVec S_ 1 := (fun x v => Host.reduce IntOp.andi x v reducesTo_S16x256x256_S_d0_1_2 h_S_) main_v17 main_c_6
  let main_v19 : IVec S_ 1 := andi main_v12 main_v18
  main_v19

def fn {F : FTy → Type} [FloatOps F] (main_arg0 : FVec F S16x13x256x256 .f32) (main_arg1 : IVec S16x256x256 32) (main_arg2 : IVec S16x256x256 32) : IVec S_ 1 :=
  let main_cst : FVec F S_ .f32 := constant S_ .f32 0xFF800000#32
  let main_v0 : FVec F S16x13x256x256 .f32 := broadcastInDim S16x13x256x256 ![] bcast_S_S16x13x256x256 main_cst
  let main_v1 : IVec S16x13x256x256 1 := cmpf .ogt main_arg0 main_v0
  let main_cst_0 : FVec F S_ .f32 := constant S_ .f32 0x7F800000#32
  let main_v2 : FVec F S16x13x256x256 .f32 := broadcastInDim S16x13x256x256 ![] bcast_S_S16x13x256x256 main_cst_0
  let main_v3 : IVec S16x13x256x256 1 := cmpf .olt main_arg0 main_v2
  let main_v4 : IVec S16x13x256x256 1 := andi main_v1 main_v3
  let main_c : IVec S_ 1 := constantI S_ 1 1#1
  let main_v5 : IVec S_ 1 := (fun x v => Host.reduce IntOp.andi x v reducesTo_S16x13x256x256_S_d0_1_2_3 h_S_) main_v4 main_c
  let main_c_1 : IVec S_ 32 := constantI S_ 32 0#32
  let main_v6 : IVec S16x256x256 32 := broadcastInDim S16x256x256 ![] bcast_S_S16x256x256 main_c_1
  let main_v7 : IVec S16x256x256 1 := cmpi .sge main_arg1 main_v6
  let main_c_2 : IVec S_ 32 := constantI S_ 32 13#32
  let main_v8 : IVec S16x256x256 32 := broadcastInDim S16x256x256 ![] bcast_S_S16x256x256 main_c_2
  let main_v9 : IVec S16x256x256 1 := cmpi .slt main_arg1 main_v8
  let main_v10 : IVec S16x256x256 1 := andi main_v7 main_v9
  let main_c_3 : IVec S_ 1 := constantI S_ 1 1#1
  let main_v11 : IVec S_ 1 := (fun x v => Host.reduce IntOp.andi x v reducesTo_S16x256x256_S_d0_1_2 h_S_) main_v10 main_c_3
  let main_v12 : IVec S_ 1 := andi main_v5 main_v11
  let main_c_4 : IVec S_ 32 := constantI S_ 32 0#32
  let main_v13 : IVec S16x256x256 32 := broadcastInDim S16x256x256 ![] bcast_S_S16x256x256 main_c_4
  let main_v14 : IVec S16x256x256 1 := cmpi .sge main_arg2 main_v13
  let main_c_5 : IVec S_ 32 := constantI S_ 32 64#32
  let main_v15 : IVec S16x256x256 32 := broadcastInDim S16x256x256 ![] bcast_S_S16x256x256 main_c_5
  fn_part1 (F := F) main_arg2 main_v12 main_v14 main_v15
-- ==== Kernel.lean ====
abbrev S16x13x256x256 : Shape := ⟨4, ![16, 13, 256, 256]⟩
abbrev S16x256x256 : Shape := ⟨3, ![16, 256, 256]⟩
abbrev S16x64x13 : Shape := ⟨3, ![16, 64, 13]⟩
abbrev S2x13x256x256 : Shape := ⟨4, ![2, 13, 256, 256]⟩
abbrev S2x256x256 : Shape := ⟨3, ![2, 256, 256]⟩
abbrev S2x64x13 : Shape := ⟨3, ![2, 64, 13]⟩
abbrev S1x13x256x256 : Shape := ⟨4, ![1, 13, 256, 256]⟩
abbrev S13x256x256 : Shape := ⟨3, ![13, 256, 256]⟩
abbrev S13x65536 : Shape := ⟨2, ![13, 65536]⟩
abbrev S1x256x256 : Shape := ⟨3, ![1, 256, 256]⟩
abbrev S256x256 : Shape := ⟨2, ![256, 256]⟩
abbrev S1x65536 : Shape := ⟨2, ![1, 65536]⟩
abbrev S64x65536 : Shape := ⟨2, ![64, 65536]⟩
abbrev S26x65536 : Shape := ⟨2, ![26, 65536]⟩
abbrev S64x26 : Shape := ⟨2, ![64, 26]⟩
abbrev S64x13 : Shape := ⟨2, ![64, 13]⟩
abbrev S1x64x13 : Shape := ⟨3, ![1, 64, 13]⟩
abbrev S1024x13 : Shape := ⟨2, ![1024, 13]⟩
abbrev S1x1 : Shape := ⟨2, ![1, 1]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩
abbrev S1x1024x13 : Shape := ⟨3, ![1, 1024, 13]⟩
abbrev S_ : Shape := ⟨0, ![]⟩

abbrev nBuf : Space → Nat
  | .hbm => 9
  | .vmem => 13
  | .smem => 0
  | _ => 0

abbrev bufTy : (tb : Table) → Fin (tcTables nBuf tb) → BufTy
  | .hbm, ⟨0, _⟩ => ⟨S16x13x256x256, .f32⟩
  | .hbm, ⟨1, _⟩ => ⟨S16x256x256, .i32⟩
  | .hbm, ⟨2, _⟩ => ⟨S16x256x256, .i32⟩
  | .hbm, ⟨3, _⟩ => ⟨S16x64x13, .f32⟩
  | .hbm, ⟨4, _⟩ => ⟨S16x64x13, .f32⟩
  | .hbm, ⟨5, _⟩ => ⟨S1024x13, .f32⟩
  | .hbm, ⟨6, _⟩ => ⟨S1024x13, .f32⟩
  | .hbm, ⟨7, _⟩ => ⟨S1x1, .f32⟩
  | .hbm, ⟨8, _⟩ => ⟨S_, .f32⟩
  | .local _ .vmem, ⟨0, _⟩ => ⟨S2x13x256x256, .f32⟩
  | .local _ .vmem, ⟨1, _⟩ => ⟨S2x13x256x256, .f32⟩
  | .local _ .vmem, ⟨2, _⟩ => ⟨S2x256x256, .i32⟩
  | .local _ .vmem, ⟨3, _⟩ => ⟨S2x256x256, .i32⟩
  | .local _ .vmem, ⟨4, _⟩ => ⟨S2x256x256, .i32⟩
  | .local _ .vmem, ⟨5, _⟩ => ⟨S2x256x256, .i32⟩
  | .local _ .vmem, ⟨6, _⟩ => ⟨S2x64x13, .f32⟩
  | .local _ .vmem, ⟨7, _⟩ => ⟨S2x64x13, .f32⟩
  | .local _ .vmem, ⟨8, _⟩ => ⟨S2x64x13, .f32⟩
  | .local _ .vmem, ⟨9, _⟩ => ⟨S2x64x13, .f32⟩
  | .local _ .vmem, ⟨10, _⟩ => ⟨S1024x13, .f32⟩
  | .local _ .vmem, ⟨11, _⟩ => ⟨S1024x13, .f32⟩
  | .local _ .vmem, ⟨12, _⟩ => ⟨S1x1, .f32⟩
  | _, _ => ⟨S16x13x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x13x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x13 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x13 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S1024x13 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x13 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S16x13x256x256 : Shape := ⟨4, ![16, 13, 256, 256]⟩
abbrev S16x256x256 : Shape := ⟨3, ![16, 256, 256]⟩
abbrev S16x256x256x13 : Shape := ⟨4, ![16, 256, 256, 13]⟩
abbrev S1048576x13 : Shape := ⟨2, ![1048576, 13]⟩
abbrev S16 : Shape := ⟨1, ![16]⟩
abbrev S16x1x1 : Shape := ⟨3, ![16, 1, 1]⟩
abbrev S_ : Shape := ⟨0, ![]⟩
abbrev S1048576 : Shape := ⟨1, ![1048576]⟩
abbrev S1024x13 : Shape := ⟨2, ![1024, 13]⟩
abbrev S1048576x1 : Shape := ⟨2, ![1048576, 1]⟩
abbrev S1024 : Shape := ⟨1, ![1024]⟩
abbrev S1024x1 : Shape := ⟨2, ![1024, 1]⟩
abbrev S13312 : Shape := ⟨1, ![13312]⟩
abbrev S1 : Shape := ⟨1, ![1]⟩
abbrev S1024x1x1 : Shape := ⟨3, ![1024, 1, 1]⟩
abbrev S1x1x1 : Shape := ⟨3, ![1, 1, 1]⟩

abbrev nBuf : Space → Nat
  | .hbm => 146
  | .vmem => 0
  | .smem => 0
  | _ => 0

abbrev hbmTy0_0 (i : Nat) : BufTy := match i % 128 with
  | 0 => ⟨S16x13x256x256, .f32⟩
  | 1 => ⟨S16x256x256, .i32⟩
  | 2 => ⟨S16x256x256, .i32⟩
  | 3 => ⟨S16x256x256x13, .f32⟩
  | 4 => ⟨S1048576x13, .f32⟩
  | 5 => ⟨S16, .i32⟩
  | 6 => ⟨S16x1x1, .i32⟩
  | 7 => ⟨S_, .i32⟩
  | 8 => ⟨S16x1x1, .i32⟩
  | 9 => ⟨S16x1x1, .i32⟩
  | 10 => ⟨S16x256x256, .i32⟩
  | 11 => ⟨S16x256x256, .i32⟩
  | 12 => ⟨S1048576, .i32⟩
  | 13 => ⟨S1048576, .i32⟩
  | 14 => ⟨S_, .f32⟩
  | 15 => ⟨S1048576, .f32⟩
  | 16 => ⟨S_, .f32⟩
  | 17 => ⟨S1024x13, .f32⟩
  | 18 => ⟨S1048576x1, .i32⟩
  | 19 => ⟨S1024x13, .f32⟩
  | 20 => ⟨S_, .f32⟩
  | 21 => ⟨S1024, .f32⟩
  | 22 => ⟨S1048576x1, .i32⟩
  | 23 => ⟨S1024, .f32⟩
  | 24 => ⟨S_, .f32⟩
  | 25 => ⟨S1024, .f32⟩
  | 26 => ⟨S1024, .f32⟩
  | 27 => ⟨S1024x1, .f32⟩
  | 28 => ⟨S1024x13, .f32⟩
  | 29 => ⟨S1024x13, .f32⟩
  | 30 => ⟨S_, .i32⟩
  | 31 => ⟨S1048576, .i32⟩
  | 32 => ⟨S1048576, .i32⟩
  | 33 => ⟨S1048576, .i32⟩
  | 34 => ⟨S_, .f32⟩
  | 35 => ⟨S13312, .f32⟩
  | 36 => ⟨S1048576x1, .i32⟩
  | 37 => ⟨S13312, .f32⟩
  | 38 => ⟨S1024x13, .f32⟩
  | 39 => ⟨S_, .i32⟩
  | 40 => ⟨S1, .i32⟩
  | 41 => ⟨S_, .f32⟩
  | 42 => ⟨S1024, .f32⟩
  | 43 => ⟨S1024x13, .f32⟩
  | 44 => ⟨S_, .f32⟩
  | 45 => ⟨S1024, .f32⟩
  | 46 => ⟨S_, .f32⟩
  | 47 => ⟨S1024, .f32⟩
  | 48 => ⟨S1024, .i1⟩
  | 49 => ⟨S1024x13, .i32⟩
  | 50 => ⟨S_, .f32⟩
  | 51 => ⟨S_, .i32⟩
  | 52 => ⟨S1024, .f32⟩
  | 53 => ⟨S1024, .i32⟩
  | 54 => ⟨S1024x13, .i32⟩
  | 55 => ⟨S_, .f32⟩
  | 56 => ⟨S_, .i32⟩
  | 57 => ⟨S1024, .f32⟩
  | 58 => ⟨S1024, .i32⟩
  | 59 => ⟨S1024, .i32⟩
  | 60 => ⟨S_, .f32⟩
  | 61 => ⟨S1024, .f32⟩
  | 62 => ⟨S_, .f32⟩
  | 63 => ⟨S1024, .f32⟩
  | 64 => ⟨S1024, .f32⟩
  | 65 => ⟨S1024x1, .f32⟩
  | 66 => ⟨S1024x13, .f32⟩
  | 67 => ⟨S1024x13, .f32⟩
  | 68 => ⟨S1024x13, .f32⟩
  | 69 => ⟨S_, .f32⟩
  | 70 => ⟨S1024, .f32⟩
  | 71 => ⟨S1024x1, .f32⟩
  | 72 => ⟨S1024x1, .f32⟩
  | 73 => ⟨S1024x13, .f32⟩
  | 74 => ⟨S1024x13, .f32⟩
  | 75 => ⟨S1024x1, .i32⟩
  | 76 => ⟨S_, .i32⟩
  | 77 => ⟨S1024x1, .i32⟩
  | 78 => ⟨S1024x1, .i1⟩
  | 79 => ⟨S_, .i32⟩
  | 80 => ⟨S1024x1, .i32⟩
  | 81 => ⟨S1024x1, .i32⟩
  | 82 => ⟨S1024x1, .i32⟩
  | 83 => ⟨S1024x1x1, .i32⟩
  | 84 => ⟨S1, .i32⟩
  | 85 => ⟨S_, .i32⟩
  | 86 => ⟨S1024x1x1, .i32⟩
  | 87 => ⟨S1024x1x1, .i1⟩
  | 88 => ⟨S1x1x1, .i32⟩
  | 89 => ⟨S1024x1x1, .i32⟩
  | 90 => ⟨S1024x1x1, .i1⟩
  | 91 => ⟨S1024x1x1, .i1⟩
  | 92 => ⟨S_, .i1⟩
  | 93 => ⟨S1024x1, .i1⟩
  | 94 => ⟨S1024x1, .f32⟩
  | 95 => ⟨S_, .f32⟩
  | 96 => ⟨S1024x1, .f32⟩
  | 97 => ⟨S1024x1, .f32⟩
  | 98 => ⟨S1024, .f32⟩
  | 99 => ⟨S1024, .f32⟩
  | 100 => ⟨S_, .f32⟩
  | 101 => ⟨S1024, .f32⟩
  | 102 => ⟨S1024, .i1⟩
  | 103 => ⟨S1024, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S1024, .i32⟩
  | 111 => ⟨S1024, .i32⟩
  | 112 => ⟨S_, .i32⟩
  | 113 => ⟨S1024, .i32⟩
  | 114 => ⟨S1024, .i1⟩
  | 115 => ⟨S_, .i32⟩
  | 116 => ⟨S1024, .i32⟩
  | 117 => ⟨S1024, .i1⟩
  | 118 => ⟨S_, .i32⟩
  | 119 => ⟨S_, .i1⟩
  | 120 => ⟨S1024, .i1⟩
  | 121 => ⟨S1024, .i1⟩
  | 122 => ⟨S1024, .i1⟩
  | 123 => ⟨S1024, .i32⟩
  | 124 => ⟨S1024, .i32⟩
  | 125 => ⟨S1024, .i32⟩
  | 126 => ⟨S_, .i32⟩
  | 127 => ⟨S1024, .i32⟩
  | _ => ⟨S16x13x256x256, .f32⟩

abbrev hbmTy0_1 (i : Nat) : BufTy := match i % 128 with
  | 0 => ⟨S1024, .i1⟩
  | 1 => ⟨S1024, .i1⟩
  | 2 => ⟨S1024, .f32⟩
  | 3 => ⟨S1024, .f32⟩
  | 4 => ⟨S_, .f32⟩
  | 5 => ⟨S_, .f32⟩
  | 6 => ⟨S_, .f32⟩
  | 7 => ⟨S_, .f32⟩
  | 8 => ⟨S_, .f32⟩
  | 9 => ⟨S_, .i1⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | _ => ⟨S16x13x256x256, .f32⟩

abbrev hbmTy (i : Nat) : BufTy := match i / 128 with
  | 0 => hbmTy0_0 i
  | 1 => hbmTy0_1 i
  | _ => ⟨S16x13x256x256, .f32⟩

abbrev bufTy : (tb : Table) → Fin (tcTables nBuf tb) → BufTy
  | .hbm, ⟨i, _⟩ => hbmTy i
  | _, _ => ⟨S16x13x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_5 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_call0_v0 : Ref sig .tc := ⟨.hbm, 49, rfl⟩
abbrev main_call0_cst : Ref sig .tc := ⟨.hbm, 50, rfl⟩
abbrev main_call0_c : Ref sig .tc := ⟨.hbm, 51, rfl⟩
abbrev main_call0_v1_0 : Ref sig .tc := ⟨.hbm, 52, rfl⟩
abbrev main_v35 : Ref sig .tc := ⟨.hbm, 53, rfl⟩
abbrev main_call1_v0 : Ref sig .tc := ⟨.hbm, 54, rfl⟩
abbrev main_call1_cst : Ref sig .tc := ⟨.hbm, 55, rfl⟩
abbrev main_call1_c : Ref sig .tc := ⟨.hbm, 56, rfl⟩
abbrev main_call1_v1_0 : Ref sig .tc := ⟨.hbm, 57, rfl⟩
abbrev main_v36 : Ref sig .tc := ⟨.hbm, 58, rfl⟩
abbrev main_v37 : Ref sig .tc := ⟨.hbm, 59, rfl⟩
abbrev main_call3_cst : Ref sig .tc := ⟨.hbm, 60, rfl⟩
abbrev main_call3_v0 : Ref sig .tc := ⟨.hbm, 61, rfl⟩
abbrev main_call3_cst_0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_cst_1 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_v38 : Ref sig .tc := ⟨.hbm, 74, rfl⟩
abbrev main_v39 : Ref sig .tc := ⟨.hbm, 75, rfl⟩
abbrev main_call4_c : Ref sig .tc := ⟨.hbm, 76, rfl⟩
abbrev main_call4_v0 : Ref sig .tc := ⟨.hbm, 77, rfl⟩
abbrev main_call4_v1 : Ref sig .tc := ⟨.hbm, 78, rfl⟩
abbrev main_call4_c_0 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_c_1 : Ref sig .tc := ⟨.hbm, 84, rfl⟩
abbrev main_call4_c_2 : Ref sig .tc := ⟨.hbm, 85, rfl⟩
abbrev main_call4_v6 : Ref sig .tc := ⟨.hbm, 86, rfl⟩
abbrev main_call4_v7 : Ref sig .tc := ⟨.hbm, 87, rfl⟩
abbrev main_call4_v8 : Ref sig .tc := ⟨.hbm, 88, rfl⟩
abbrev main_call4_v9 : Ref sig .tc := ⟨.hbm, 89, rfl⟩
abbrev main_call4_v10 : Ref sig .tc := ⟨.hbm, 90, rfl⟩
abbrev main_call4_v11 : Ref sig .tc := ⟨.hbm, 91, rfl⟩
abbrev main_call4_c_3 : Ref sig .tc := ⟨.hbm, 92, rfl⟩
abbrev main_call4_v12 : Ref sig .tc := ⟨.hbm, 93, rfl⟩
abbrev main_call4_v13 : Ref sig .tc := ⟨.hbm, 94, rfl⟩
abbrev main_call4_cst : Ref sig .tc := ⟨.hbm, 95, rfl⟩
abbrev main_call4_v14 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_cst_9 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_c_10 : Ref sig .tc := ⟨.hbm, 104, rfl⟩
abbrev main_call5_v0 : Ref sig .tc := ⟨.hbm, 105, rfl⟩
abbrev main_call5_c : Ref sig .tc := ⟨.hbm, 106, rfl⟩
abbrev main_call5_v1 : Ref sig .tc := ⟨.hbm, 107, rfl⟩
abbrev main_call5_c_0 : Ref sig .tc := ⟨.hbm, 108, rfl⟩
abbrev main_call5_v2 : Ref sig .tc := ⟨.hbm, 109, rfl⟩
abbrev main_call5_v3 : Ref sig .tc := ⟨.hbm, 110, rfl⟩
abbrev main_call5_v4 : Ref sig .tc := ⟨.hbm, 111, rfl⟩
abbrev main_call5_c_1 : Ref sig .tc := ⟨.hbm, 112, rfl⟩
abbrev main_call5_v5 : Ref sig .tc := ⟨.hbm, 113, rfl⟩
abbrev main_call5_v6 : Ref sig .tc := ⟨.hbm, 114, rfl⟩
abbrev main_call5_c_2 : Ref sig .tc := ⟨.hbm, 115, rfl⟩
abbrev main_call5_v7 : Ref sig .tc := ⟨.hbm, 116, rfl⟩
abbrev main_call5_v8 : Ref sig .tc := ⟨.hbm, 117, rfl⟩
abbrev main_call5_c_3 : Ref sig .tc := ⟨.hbm, 118, rfl⟩
abbrev main_call5_v9 : Ref sig .tc := ⟨.hbm, 119, rfl⟩
abbrev main_call5_v10 : Ref sig .tc := ⟨.hbm, 120, rfl⟩
abbrev main_call5_v11 : Ref sig .tc := ⟨.hbm, 121, rfl⟩
abbrev main_call5_v12 : Ref sig .tc := ⟨.hbm, 122, rfl⟩
abbrev main_call5_v13 : Ref sig .tc := ⟨.hbm, 123, rfl⟩
abbrev main_call5_v14 : Ref sig .tc := ⟨.hbm, 124, rfl⟩
abbrev main_v46 : Ref sig .tc := ⟨.hbm, 125, rfl⟩
abbrev main_c_11 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_cst_12 : Ref sig .tc := ⟨.hbm, 132, rfl⟩
abbrev main_v52 : Ref sig .tc := ⟨.hbm, 133, rfl⟩
abbrev main_cst_13 : Ref sig .tc := ⟨.hbm, 134, rfl⟩
abbrev main_v53 : Ref sig .tc := ⟨.hbm, 135, rfl⟩
abbrev main_cst_14 : Ref sig .tc := ⟨.hbm, 136, rfl⟩
abbrev main_v54 : Ref sig .tc := ⟨.hbm, 137, rfl⟩
abbrev main_cst_15 : Ref sig .tc := ⟨.hbm, 138, rfl⟩
abbrev main_v55 : Ref sig .tc := ⟨.hbm, 139, rfl⟩
abbrev main_v56 : Ref sig .tc := ⟨.hbm, 140, rfl⟩
abbrev main_cst_16 : Ref sig .tc := ⟨.hbm, 141, rfl⟩
abbrev main_v57 : Ref sig .tc := ⟨.hbm, 142, rfl⟩
abbrev main_cst_17 : Ref sig .tc := ⟨.hbm, 143, rfl⟩
abbrev main_v58 : Ref sig .tc := ⟨.hbm, 144, rfl⟩
abbrev main_v59 : Ref sig .tc := ⟨.hbm, 145, rfl⟩

abbrev nD : Nat := 1
abbrev τ : Topo := Topo.v7x

variable {F : FTy → Type} [FloatOps F]
-- ==== Proof.Drawn.lean ====
/- What the precondition says of the arguments: the logits are finite, the labels are classes, the field ids are fields. -/
module

public import proofs.«01_k».proof.Defs
public import Idealize.ShloMosaic.Lib.ReduceAll
public import Idealize.ShloMosaic.Lib.Affine
public import Idealize.ShloMosaic.Lib.WordArith
public import Idealize.ShloMosaic.Lib.Pointwise

@[expose] public section

set_option maxRecDepth 16384

noncomputable section

namespace Cert.Pre_drawn

open Idealize.ShloMosaic Idealize.ShloMosaic.TcCoe

variable [Facts]

/-- A word between 0 and a bound, both compared as signed, is below the bound as a natural number. -/
theorem toNat_lt {x : BitVec 32} {k : ℕ} (hk : k < 2 ^ 31) (h : IntOp.andi (IntOp.cmpi .sge x 0#32) (IntOp.cmpi .slt x (BitVec.ofNat 32 k)) = 1#1) :
    x.toNat < k := by
  obtain ⟨h0, h1⟩ := IntOp.andi_eq_one.1 h
  refine WordArith.toNat_lt_of_zero_sle_of_slt_ofNat x k hk ?_ ?_
  · simpa [BitVec.sle_iff_toInt_le] using IntOp.cmpi_sge.1 h0
  · simpa [BitVec.slt_iff_toInt_lt] using IntOp.cmpi_slt.1 h1

/-- The precondition, read element by element. -/
theorem spec (lg : FVec Ideal S16x13x256x256 .f32) (l f : IVec S16x256x256 32)
    (h : fn (F := Ideal) lg l f = fun _ => 1#1) :
    (∀ i, (lg i : EReal) ≠ ⊥ ∧ (lg i : EReal) ≠ ⊤) ∧ (∀ i, (l i).toNat < 13) ∧ (∀ i, (f i).toNat < 64) := by
  have e := congrFun h ix0
  obtain ⟨e', ef⟩ := IntOp.andi_eq_one.1 e
  obtain ⟨eg, el⟩ := IntOp.andi_eq_one.1 e'
  haveI : Subsingleton S_.Idx := ⟨fun a b => funext fun i => i.elim0⟩
  refine ⟨fun i => ?_, fun i => toNat_lt (by decide) (Host.reduce_andi_all _ _ _ _ _ el i),
    fun i => toNat_lt (by decide) (Host.reduce_andi_all _ _ _ _ _ ef i)⟩
  obtain ⟨a, b⟩ := IntOp.andi_eq_one.1 (Host.reduce_andi_all _ _ _ _ _ eg i)
  have hb : Ideal.ofBits .f32 0xFF800000#32 = ⊥ := by simp [Ideal.ofBits, Ideal.ieee]
  have ht : Ideal.ofBits .f32 0x7F800000#32 = ⊤ := by simp [Ideal.ofBits, Ideal.ieee]
  have a' : Ideal.ofBits .f32 0xFF800000#32 < lg i := by
    have a1 : BitVec.ofBool (decide (Ideal.ofBits .f32 0xFF800000#32 < lg i)) = 1#1 := a
    exact of_decide_eq_true (by cases hd : decide (Ideal.ofBits .f32 0xFF800000#32 < lg i) <;> simp_all)
  have b' : (lg i : EReal) < Ideal.ofBits .f32 0x7F800000#32 := by
    have b1 : BitVec.ofBool (decide ((lg i : EReal) < Ideal.ofBits .f32 0x7F800000#32)) = 1#1 := b
    exact of_decide_eq_true (by cases hd : decide ((lg i : EReal) < Ideal.ofBits .f32 0x7F800000#32) <;> simp_all)
  rw [hb] at a'
  rw [ht] at b'
  exact ⟨a'.ne', b'.ne⟩

end Cert.Pre_drawn

end
-- ==== Proof.KernelRun.lean ====
/- The run of the kernel with its result read: every final state has the result buffer at the last boundary's contents
   (`Gen.W4`), which is the one cell the second region leaves, computed from the two arrays the first region leaves. -/
module

public import proofs.«01_k».proof.Proof.Gen.KernelIdeal
public import proofs.«01_k».proof.Proof.Gen.KernelIdeal.Frame
public import Idealize.ShloMosaic.Lib.Claim
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- the kit's launch unifies with the printed program only when unification may unfold plain definitions
set_option backward.isDefEq.respectTransparency.types false in
/-- Every weakly fair execution of the kernel terminates, its result buffer at the last boundary's contents and its
    arguments unchanged. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

/-- The array of sums the first region leaves. -/
def sumsArr (c : Dev nD) : FVec F S16x64x13 .f32 := (dat0 (V0 m ρ) c).arrAt 3 cfg0.N
/-- The array of histograms the first region leaves. -/
def histArr (c : Dev nD) : FVec F S16x64x13 .f32 := (dat0 (V0 m ρ) c).arrAt 4 cfg0.N

/-- The second region reads the sums as 1024 rows. -/
theorem V2_sums (c : Dev nD) : V2 m ρ c main_v1 = shapeCast S1024x13 (sumsArr m ρ c) shapeCasts_S16x64x13_S1024x13 := by
  have h := W1_arr m ρ c 3
  show StableHlo.after hostOps1 (W1 m ρ c) (Proc.devRef .tc main_v1) = _
  after_results
  unfold sumsArr
  rw [← h]; rfl

/-- The second region reads the histograms as 1024 rows. -/
theorem V2_hist (c : Dev nD) : V2 m ρ c main_v2 = shapeCast S1024x13 (histArr m ρ c) shapeCasts_S16x64x13_S1024x13 := by
  have h := W1_arr m ρ c 4
  show StableHlo.after hostOps1 (W1 m ρ c) (Proc.devRef .tc main_v2) = _
  after_results
  unfold histArr
  rw [← h]; rfl

/-- The one cell the second region computes, of the sums and the histograms by rows. -/
def cell (s h : FVec F S1024x13 .f32) : FVec F S1x1 .f32 := k1_pay1 (k1_pay2 s) (k1_pay4 h) (k1_pay6 s h) (k1_pay7 s h)

/-- The second region's windows are whole arrays. -/
theorem idx1 : ∀ t : Fin cfg1.N, win1_0.index t = ![0, 0] ∧ win1_1.index t = ![0, 0] ∧ win1_2.index t = ![0, 0] :=
  (by decide +kernel : ∀ t : Fin grid1.N, _)

/-- What the second region leaves: that cell, of the two arrays it reads. -/
theorem cell_arr (c : Dev nD) : (dat1 (V2 m ρ) c).arrAt 2 cfg1.N = cell (V2 m ρ c main_v1) (V2 m ρ c main_v2) := by
  have h0 : iblk1 (V2 m ρ) c 0 t1_0 = V2 m ρ c main_v1 := by blk_ext! [iblk1, idx1 t1_0]
  have h1 : iblk1 (V2 m ρ) c 1 t1_0 = V2 m ρ c main_v2 := by blk_ext! [iblk1, idx1 t1_0]
  refine (dat1 (V2 m ρ) c).arrAt_eq_of_after_last 2 t1_0 (by decide +kernel) _ fun j => ?_
  blk_simp
  rw [after1_2, h0, h1]
  frame_out
  rfl

/-- The result: that cell, as a scalar. -/
theorem W4_result (c : Dev nD) :
    W4 m ρ c (Proc.devRef .tc main_v4)
      = shapeCast S_ (cell (shapeCast S1024x13 (sumsArr m ρ c) shapeCasts_S16x64x13_S1024x13)
          (shapeCast S1024x13 (histArr m ρ c) shapeCasts_S16x64x13_S1024x13)) shapeCasts_S1x1_S_ := by
  have h := (W3_arr m ρ c 2).trans (cell_arr m ρ c)
  rw [V2_sums, V2_hist] at h
  show StableHlo.after hostOps2 (W3 m ρ c) (Proc.devRef .tc main_v4) = _
  after_results
  rw [← h]; rfl

end Cert.KernelIdeal.Val

end
-- ==== Proof.SegValue.lean ====
/- What the first region leaves: for each image, field and class, the sum of the logits of the field's pixels and the
   number of the field's pixels that carry the class as their label. -/
module

public import proofs.«01_k».proof.Proof.Gen.KernelIdeal
public import proofs.«01_k».proof.Proof.Gen.KernelIdeal.Frame
public import proofs.«01_k».proof.Proof.KernelRun
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem
open Cert.KernelIdeal Cert.KernelIdeal.Gen

/-- One where two words agree, zero elsewhere. -/
def hot (a v : BitVec 32) : EReal := if a = v then 1 else 0

/-- A comparison for equality, read as a number. -/
theorem hot_eq (a v : BitVec 32) :
    (FloatOps.sitofp (F := Ideal) .f32 (BitVec.setWidth 32 (IntOp.cmpi .eq a v)) : EReal) = hot a v := by
  by_cases h : a = v
  · simp [hot, h, IntOp.cmpi, FloatOps.sitofp]
  · have h' : (a == v) = false := by simp [h]
    simp [hot, h, h', IntOp.cmpi, FloatOps.sitofp]

/-- One image's field sums of the logits. -/
theorem pay5_at (x : FVec Ideal S1x13x256x256 .f32) (f l : IVec S1x256x256 32) (a : Fin 64) (k : Fin 13) :
    k0_pay5 (F := Ideal) x f l (ix3 (0 : Fin 1) a k)
      = ∑ n : Fin 65536, hot (BitVec.ofNat 32 a) (f (ix3 0 ⟨n / 256, by omega⟩ ⟨n % 256, by omega⟩))
          * x (ix4 0 k ⟨n / 256, by omega⟩ ⟨n % 256, by omega⟩) := by
  pointwise [k0_pay5, k0_pay4, hot_eq]

/-- One image's counts of each label in each field. -/
theorem pay6_at (x : FVec Ideal S1x13x256x256 .f32) (f l : IVec S1x256x256 32) (a : Fin 64) (k : Fin 13) :
    k0_pay6 (F := Ideal) x f l (ix3 (0 : Fin 1) a k)
      = ∑ n : Fin 65536, hot (BitVec.ofNat 32 a) (f (ix3 0 ⟨n / 256, by omega⟩ ⟨n % 256, by omega⟩))
          * hot (BitVec.ofNat 32 k) (l (ix3 0 ⟨n / 256, by omega⟩ ⟨n % 256, by omega⟩)) := by
  pointwise [k0_pay6, k0_pay4, hot_eq]

/-- The other image's field sums of the logits. -/
theorem pay2_at (x : FVec Ideal S1x13x256x256 .f32) (f l : IVec S1x256x256 32) (a : Fin 64) (k : Fin 13) :
    k0_pay2 (F := Ideal) (k0_pay7 x) f l (ix3 (0 : Fin 1) a k)
      = ∑ n : Fin 65536, hot (BitVec.ofNat 32 a) (f (ix3 0 ⟨n / 256, by omega⟩ ⟨n % 256, by omega⟩))
          * x (ix4 0 k ⟨n / 256, by omega⟩ ⟨n % 256, by omega⟩) := by
  pointwise [k0_pay2, k0_pay1, k0_pay7, hot_eq]

/-- The other image's counts of each label in each field. -/
theorem pay3_at (x : FVec Ideal S1x13x256x256 .f32) (f l : IVec S1x256x256 32) (a : Fin 64) (k : Fin 13) :
    k0_pay3 (F := Ideal) (k0_pay7 x) f l (ix3 (0 : Fin 1) a k)
      = ∑ n : Fin 65536, hot (BitVec.ofNat 32 a) (f (ix3 0 ⟨n / 256, by omega⟩ ⟨n % 256, by omega⟩))
          * hot (BitVec.ofNat 32 k) (l (ix3 0 ⟨n / 256, by omega⟩ ⟨n % 256, by omega⟩)) := by
  pointwise [k0_pay3, k0_pay1, k0_pay7, hot_eq]

/-- The sums of the logits over the pixels of each image's fields. -/
def fieldSums (lg : FVec Ideal S16x13x256x256 .f32) (f : IVec S16x256x256 32) : FVec Ideal S16x64x13 .f32 := fun j =>
  ∑ n : Fin 65536, hot (BitVec.ofNat 32 (j 1).val) (f (ix3 (j 0) ⟨n / 256, by omega⟩ ⟨n % 256, by omega⟩))
    * lg (ix4 (j 0) (j 2) ⟨n / 256, by omega⟩ ⟨n % 256, by omega⟩)

/-- The numbers of pixels of each image's fields that carry each label. -/
def fieldHist (f l : IVec S16x256x256 32) : FVec Ideal S16x64x13 .f32 := fun j =>
  ∑ n : Fin 65536, hot (BitVec.ofNat 32 (j 1).val) (f (ix3 (j 0) ⟨n / 256, by omega⟩ ⟨n % 256, by omega⟩))
    * hot (BitVec.ofNat 32 (j 2).val) (l (ix3 (j 0) ⟨n / 256, by omega⟩ ⟨n % 256, by omega⟩))

variable (m : (ℓ : Loc nD τ sig) → Buf (Elt Ideal) ℓ) (ρ : Dev nD → PrngReg)

/-- Point `t` of the first region works on images `2t` and `2t + 1`. -/
theorem idx0 : ∀ t : Fin cfg0.N, win0_0.index t = ![t.val, 0, 0, 0] ∧ win0_1.index t = ![t.val, 0, 0]
    ∧ win0_2.index t = ![t.val, 0, 0] ∧ win0_3.index t = ![t.val, 0, 0] ∧ win0_4.index t = ![t.val, 0, 0] :=
  (by decide +kernel : ∀ t : Fin grid0.N, _)

/-- The block of sums of a point, by image of the block. -/
theorem sums_block (x : FVec Ideal S2x13x256x256 .f32) (f l : IVec S2x256x256 32) (p : Fin 2) (a : Fin 64) (k : Fin 13) :
    out0_3 (F := Ideal) x f l (ix3 p a k)
      = ∑ n : Fin 65536, hot (BitVec.ofNat 32 a) (f (ix3 p ⟨n / 256, by omega⟩ ⟨n % 256, by omega⟩))
          * x (ix4 p k ⟨n / 256, by omega⟩ ⟨n % 256, by omega⟩) := by
  frame_out
  canon_tiles u h
  · obtain ⟨q, a', k', rfl⟩ : ∃ (q : Fin 1) (a' : Fin 64) (k' : Fin 13), u = ix3 q a' k' := ⟨u 0, u 1, u 2, by blk_ext⟩
    obtain rfl : q = 0 := Subsingleton.elim _ _
    obtain rfl : a = a' := Fin.ext h1
    obtain rfl : k = k' := Fin.ext h2
    obtain rfl : p = 1 := Fin.ext h0
    refine (pay2_at _ _ _ a k).trans (Finset.sum_congr rfl fun n _ => ?_)
    pointwise
    blk_ext
  · obtain ⟨q, a', k', rfl⟩ : ∃ (q : Fin 1) (a' : Fin 64) (k' : Fin 13), u = ix3 q a' k' := ⟨u 0, u 1, u 2, by blk_ext⟩
    obtain rfl : q = 0 := Subsingleton.elim _ _
    obtain rfl : a = a' := Fin.ext h1
    obtain rfl : k = k' := Fin.ext h2
    obtain rfl : p = 0 := Fin.ext h0
    refine (pay5_at _ _ _ a k).trans (Finset.sum_congr rfl fun n _ => ?_)
    pointwise
    blk_ext

/-- The block of label counts of a point, by image of the block. -/
theorem hist_block (x : FVec Ideal S2x13x256x256 .f32) (f l : IVec S2x256x256 32) (p : Fin 2) (a : Fin 64) (k : Fin 13) :
    out0_4 (F := Ideal) x f l (ix3 p a k)
      = ∑ n : Fin 65536, hot (BitVec.ofNat 32 a) (f (ix3 p ⟨n / 256, by omega⟩ ⟨n % 256, by omega⟩))
          * hot (BitVec.ofNat 32 k) (l (ix3 p ⟨n / 256, by omega⟩ ⟨n % 256, by omega⟩)) := by
  frame_out
  canon_tiles u h
  · obtain ⟨q, a', k', rfl⟩ : ∃ (q : Fin 1) (a' : Fin 64) (k' : Fin 13), u = ix3 q a' k' := ⟨u 0, u 1, u 2, by blk_ext⟩
    obtain rfl : q = 0 := Subsingleton.elim _ _
    obtain rfl : a = a' := Fin.ext h1
    obtain rfl : k = k' := Fin.ext h2
    obtain rfl : p = 1 := Fin.ext h0
    refine (pay3_at _ _ _ a k).trans (Finset.sum_congr rfl fun n _ => ?_)
    pointwise
    blk_ext
  · obtain ⟨q, a', k', rfl⟩ : ∃ (q : Fin 1) (a' : Fin 64) (k' : Fin 13), u = ix3 q a' k' := ⟨u 0, u 1, u 2, by blk_ext⟩
    obtain rfl : q = 0 := Subsingleton.elim _ _
    obtain rfl : a = a' := Fin.ext h1
    obtain rfl : k = k' := Fin.ext h2
    obtain rfl : p = 0 := Fin.ext h0
    refine (pay6_at _ _ _ a k).trans (Finset.sum_congr rfl fun n _ => ?_)
    pointwise
    blk_ext

/-- The images a point reads: the logits. -/
theorem blk_logits (c : Dev nD) (t : Fin cfg0.N) (p : Fin 2) (k : Fin 13) (i j : Fin 256) (b : Fin 16) (hb : (b : ℕ) = 2 * t.val + p) :
    iblk0 (V0 m ρ) c 0 t (ix4 p k i j) = m (c, main_arg0) (ix4 b k i j) := by
  blk_point [iblk0, V0, idx0 t]

/-- The images a point reads: the fields. -/
theorem blk_fields (c : Dev nD) (t : Fin cfg0.N) (p : Fin 2) (i j : Fin 256) (b : Fin 16) (hb : (b : ℕ) = 2 * t.val + p) :
    iblk0 (V0 m ρ) c 1 t (ix3 p i j) = m (c, main_arg2) (ix3 b i j) := by
  blk_point [iblk0, V0, idx0 t]

/-- The images a point reads: the labels. -/
theorem blk_labels (c : Dev nD) (t : Fin cfg0.N) (p : Fin 2) (i j : Fin 256) (b : Fin 16) (hb : (b : ℕ) = 2 * t.val + p) :
    iblk0 (V0 m ρ) c 2 t (ix3 p i j) = m (c, main_arg1) (ix3 b i j) := by
  blk_point [iblk0, V0, idx0 t]

/-- A point's block of sums, as a block of the array of sums. -/
theorem sums_point (c : Dev nD) (t : Fin cfg0.N) (y : S2x64x13.Idx) :
    out0_3 (F := Ideal) (iblk0 (V0 m ρ) c 0 t) (iblk0 (V0 m ρ) c 1 t) (iblk0 (V0 m ρ) c 2 t) y
      = fieldSums (m (c, main_arg0)) (m (c, main_arg2)) ((win0_3.blk t).view.emb y) := by
  have ht : t.val < 8 := t.isLt
  obtain ⟨p, a, k, rfl⟩ : ∃ (p : Fin 2) (a : Fin 64) (k : Fin 13), y = ix3 p a k := ⟨y 0, y 1, y 2, by blk_ext⟩
  have he : (win0_3.blk t).view.emb (ix3 p a k) = ix3 (⟨2 * t.val + p, by omega⟩ : Fin 16) a k := by
    blk_ext [idx0 t]
  rw [he]
  refine (sums_block _ _ _ p a k).trans (Finset.sum_congr rfl fun n _ => ?_)
  rw [blk_fields m ρ c t p _ _ ⟨2 * t.val + p, by omega⟩ rfl, blk_logits m ρ c t p k _ _ ⟨2 * t.val + p, by omega⟩ rfl]
  rfl

/-- The array of sums the first region leaves. -/
theorem sums_arr (c : Dev nD) : sumsArr m ρ c = fieldSums (m (c, main_arg0)) (m (c, main_arg2)) := by
  refine (dat0 (V0 m ρ) c).arrAt_eq_of_covers 3 _ (by decide +kernel) fun t hf y => ?_
  blk_simp
  rw [after0_3]
  exact sums_point m ρ c t y

/-- A point's block of label counts, as a block of the array of label counts. -/
theorem hist_point (c : Dev nD) (t : Fin cfg0.N) (y : S2x64x13.Idx) :
    out0_4 (F := Ideal) (iblk0 (V0 m ρ) c 0 t) (iblk0 (V0 m ρ) c 1 t) (iblk0 (V0 m ρ) c 2 t) y
      = fieldHist (m (c, main_arg2)) (m (c, main_arg1)) ((win0_4.blk t).view.emb y) := by
  have ht : t.val < 8 := t.isLt
  obtain ⟨p, a, k, rfl⟩ : ∃ (p : Fin 2) (a : Fin 64) (k : Fin 13), y = ix3 p a k := ⟨y 0, y 1, y 2, by blk_ext⟩
  have he : (win0_4.blk t).view.emb (ix3 p a k) = ix3 (⟨2 * t.val + p, by omega⟩ : Fin 16) a k := by
    blk_ext [idx0 t]
  rw [he]
  refine (hist_block _ _ _ p a k).trans (Finset.sum_congr rfl fun n _ => ?_)
  rw [blk_fields m ρ c t p _ _ ⟨2 * t.val + p, by omega⟩ rfl, blk_labels m ρ c t p _ _ ⟨2 * t.val + p, by omega⟩ rfl]
  rfl

/-- The array of label counts the first region leaves. -/
theorem hist_arr (c : Dev nD) : histArr m ρ c = fieldHist (m (c, main_arg2)) (m (c, main_arg1)) := by
  refine (dat0 (V0 m ρ) c).arrAt_eq_of_covers 4 _ (by decide +kernel) fun t hf y => ?_
  blk_simp
  rw [after0_4]
  exact hist_point m ρ c t y

end Cert.KernelIdeal.Val

end
-- ==== Proof.RefRun.lean ====
/- What the reference computes, as a chain of named array functions of its three arguments (`outv`), and the run of the
   reference: its result buffer ends holding `outv` of the arguments, the arguments unchanged, every counter at zero. -/
module

public import proofs.«01_k».proof.Defs
public import proofs.«01_k».proof.Proof.Gen.ReferenceIdeal
public import Idealize.ShloMosaic.Lib.Claim

@[expose] public section

set_option maxRecDepth 16384

noncomputable section

namespace Cert.ReferenceIdeal.Val

open Idealize.ShloMosaic Idealize.ShloMosaic.TcCoe Idealize.SL.Sem
open Cert.ReferenceIdeal Cert.ReferenceIdeal.Facts₀

/-- The logits, one row of 13 classes per pixel of all images. -/
def rows (lg : FVec Ideal S16x13x256x256 .f32) : FVec Ideal S1048576x13 .f32 :=
  shapeCast S1048576x13 (transpose S16x256x256x13 [0, 2, 3, 1] lg transposes_S16x13x256x256_S16x256x256x13_0_2_3_1) shapeCasts_S16x256x256x13_S1048576x13

/-- The segment of each pixel: 64 times its image plus its field. -/
def seg (f : IVec S16x256x256 32) : IVec S1048576 32 :=
  shapeCast S1048576 (addi (broadcastInDim S16x256x256 ![0, 1, 2] bcast_S16x1x1_S16x256x256_0_1_2
    (muli (broadcastInDim S16x1x1 ![0] bcast_S16_S16x1x1_0 (iotaInDim S16 32 0))
      (broadcastInDim S16x1x1 ![] bcast_S_S16x1x1 (constantI S_ 32 64#32)))) f) shapeCasts_S16x256x256_S1048576

/-- A one for each pixel. -/
def ones : FVec Ideal S1048576 .f32 := broadcastInDim S1048576 ![] bcast_S_S1048576 (constant S_ .f32 0x3F800000#32)

/-- The sums of the logits over each segment. -/
def sums (lg : FVec Ideal S16x13x256x256 .f32) (f : IVec S16x256x256 32) : FVec Ideal S1024x13 .f32 :=
  Host.scatterAdd scatter_S1024x13_S1048576x1_S1048576x13_1_0_0_1
    (broadcastInDim S1024x13 ![] bcast_S_S1024x13 (constant S_ .f32 0x00000000#32))
    (broadcastInDim S1048576x1 ![0] bcast_S1048576_S1048576x1_0 (seg f)) (rows lg)

/-- The number of pixels of each segment. -/
def counts (f : IVec S16x256x256 32) : FVec Ideal S1024 .f32 :=
  Host.scatterAdd scatter_S1024_S1048576x1_S1048576_n_0_0_1
    (broadcastInDim S1024 ![] bcast_S_S1024 (constant S_ .f32 0x00000000#32))
    (broadcastInDim S1048576x1 ![0] bcast_S1048576_S1048576x1_0 (seg f)) ones

/-- The mean logits of each segment. -/
def mean (s : FVec Ideal S1024x13 .f32) (n : FVec Ideal S1024 .f32) : FVec Ideal S1024x13 .f32 :=
  Host.divf s (broadcastInDim S1024x13 ![0, 1] bcast_S1024x1_S1024x13_0_1 (broadcastInDim S1024x1 ![0] bcast_S1024_S1024x1_0
    (maximumf n (broadcastInDim S1024 ![] bcast_S_S1024 (constant S_ .f32 0x3F800000#32)))))

/-- The number of pixels of each segment and label. -/
def hist (f l : IVec S16x256x256 32) : FVec Ideal S1024x13 .f32 :=
  shapeCast S1024x13 (Host.scatterAdd scatter_S13312_S1048576x1_S1048576_n_0_0_1
    (broadcastInDim S13312 ![] bcast_S_S13312 (constant S_ .f32 0x00000000#32))
    (broadcastInDim S1048576x1 ![0] bcast_S1048576_S1048576x1_0
      (addi (muli (seg f) (broadcastInDim S1048576 ![] bcast_S_S1048576 (constantI S_ 32 13#32)))
        (shapeCast S1048576 l shapeCasts_S16x256x256_S1048576))) ones) shapeCasts_S13312_S1024x13

/-- The histogram with label 0 cleared. -/
def validHist (h : FVec Ideal S1024x13 .f32) : FVec Ideal S1024x13 .f32 :=
  Host.scatter scatter_S1024x13_S1_S1024_0_1_1_0 (fun _ b => b) h
    (broadcastInDim S1 ![] bcast_S_S1 (constantI S_ 32 0#32))
    (broadcastInDim S1024 ![] bcast_S_S1024 (constant S_ .f32 0x00000000#32))

/-- Whether a segment has a pixel of a label other than 0. -/
def hasValid (vh : FVec Ideal S1024x13 .f32) : IVec S1024 1 :=
  cmpf .ogt (Host.reduceAdd vh (constant S_ .f32 0x00000000#32) reducesTo_S1024x13_S1024_d1 h_S_)
    (broadcastInDim S1024 ![] bcast_S_S1024 (constant S_ .f32 0x00000000#32))

/-- The first class at which a row is largest. -/
def argmax (h : FVec Ideal S1024x13 .f32) : IVec S1024 32 := fun j =>
  (Host.argReduce reducer_argmax_f32_i32 h (iotaInDim S1024x13 32 1) (constant S_ .f32 0xFF800000#32) (constantI S_ 32 0#32)
    reducesTo_S1024x13_S1024_d1 h_S_ j).2

/-- The label of each segment. -/
def label (h : FVec Ideal S1024x13 .f32) : IVec S1024 32 :=
  select (hasValid (validHist h)) (argmax (validHist h)) (argmax h)

/-- The rows less their largest entries. -/
def centred (x : FVec Ideal S1024x13 .f32) : FVec Ideal S1024x13 .f32 :=
  subf x (broadcastInDim S1024x13 ![0, 1] bcast_S1024x1_S1024x13_0_1 (broadcastInDim S1024x1 ![0] bcast_S1024_S1024x1_0
    (maximumf (broadcastInDim S1024 ![] bcast_S_S1024 (constant S_ .f32 0xFF800000#32))
      (Host.reduce FloatOps.maximumf x (constant S_ .f32 0xFF800000#32) reducesTo_S1024x13_S1024_d1 h_S_))))

/-- The logarithm of the softmax of each row. -/
def logSoftmax (x : FVec Ideal S1024x13 .f32) : FVec Ideal S1024x13 .f32 :=
  subf (centred x) (broadcastInDim S1024x13 ![0, 1] bcast_S1024x1_S1024x13_0_1 (Host.log
    (broadcastInDim S1024x1 ![0] bcast_S1024_S1024x1_0
      (Host.reduceAdd (Host.exp (centred x)) (constant S_ .f32 0x00000000#32) reducesTo_S1024x13_S1024_d1 h_S_))))

/-- The position read in each row: a negative one counts from the end. -/
def wrapped (k : IVec S1024x1 32) : IVec S1024x1x1 32 :=
  shapeCast S1024x1x1 (select (cmpi .slt k (broadcastInDim S1024x1 ![] bcast_S_S1024x1 (constantI S_ 32 0#32)))
    (addi k (broadcastInDim S1024x1 ![] bcast_S_S1024x1 (constantI S_ 32 13#32))) k) shapeCasts_S1024x1_S1024x1x1

/-- Whether the position lies in the row. -/
def inRow (k : IVec S1024x1x1 32) : IVec S1024x1 1 :=
  Host.reduce IntOp.andi (andi (cmpi .sge k (broadcastInDim S1024x1x1 ![] bcast_S_S1024x1x1 (constantI S_ 32 0#32)))
    (cmpi .sle k (broadcastInDim S1024x1x1 ![0, 1, 2] bcast_S1x1x1_S1024x1x1_0_1_2
      (broadcastInDim S1x1x1 ![2] bcast_S1_S1x1x1_2 (constantI S1 32 12#32))))) (constantI S_ 1 1#1) reducesTo_S1024x1x1_S1024x1_d2 h_S_

/-- The entry of each row at the row's position. -/
def taken (x : FVec Ideal S1024x13 .f32) (k : IVec S1024x1 32) : FVec Ideal S1024x1 .f32 :=
  select (inRow (wrapped k)) (Host.gather gather_S1024x13_S1024x1x1_S1024x1_n_1_0_0_1_2_11 x (wrapped k))
    (broadcastInDim S1024x1 ![] bcast_S_S1024x1 (constant S_ .f32 0x7FC00000#32))

/-- The cross entropy of each segment. -/
def ce (x : FVec Ideal S1024x13 .f32) (k : IVec S1024 32) : FVec Ideal S1024 .f32 :=
  Host.negf (shapeCast S1024 (taken (logSoftmax x) (broadcastInDim S1024x1 ![0] bcast_S1024_S1024x1_0 k)) shapeCasts_S1024x1_S1024)

/-- The divisor 64, or 1 in place of 0. -/
def divisor : IVec S_ 32 := select (cmpi .eq (id (constantI S_ 32 64#32)) (constantI S_ 32 0#32)) (constantI S_ 32 1#32) (id (constantI S_ 32 64#32))

/-- The remainder of each segment's number by 64, of the divisor's sign. -/
def fieldOf : IVec S1024 32 :=
  select (andi (cmpi .ne
      (cmpi .slt (Host.remsi (iotaInDim S1024 32 0) (broadcastInDim S1024 ![] bcast_S_S1024 divisor))
        (broadcastInDim S1024 ![] bcast_S_S1024 (constantI S_ 32 0#32)))
      (broadcastInDim S1024 ![] bcast_S_S1024 (cmpi .slt divisor (constantI S_ 32 0#32))))
    (cmpi .ne (Host.remsi (iotaInDim S1024 32 0) (broadcastInDim S1024 ![] bcast_S_S1024 divisor))
      (broadcastInDim S1024 ![] bcast_S_S1024 (constantI S_ 32 0#32))))
    (addi (Host.remsi (iotaInDim S1024 32 0) (broadcastInDim S1024 ![] bcast_S_S1024 divisor)) (broadcastInDim S1024 ![] bcast_S_S1024 divisor))
    (Host.remsi (iotaInDim S1024 32 0) (broadcastInDim S1024 ![] bcast_S_S1024 divisor))

/-- The weight of each segment: 1 where it has a pixel and is not field 0 of its image. -/
def weight (n : FVec Ideal S1024 .f32) : FVec Ideal S1024 .f32 :=
  uitofp .f32 (andi (cmpf .ogt n (broadcastInDim S1024 ![] bcast_S_S1024 (constant S_ .f32 0x00000000#32)))
    (cmpi .ne fieldOf (broadcastInDim S1024 ![] bcast_S_S1024 (constantI S_ 32 0#32))))

/-- The weighted mean of the cross entropies, or zero times the sum of the logits when nothing has weight. -/
def final (lg : FVec Ideal S16x13x256x256 .f32) (e w : FVec Ideal S1024 .f32) : FVec Ideal S_ .f32 :=
  select (cmpf .ogt (Host.reduceAdd w (constant S_ .f32 0x00000000#32) reducesTo_S1024_S_d0 h_S_) (constant S_ .f32 0x00000000#32))
    (Host.divf (Host.reduceAdd (mulf e w) (constant S_ .f32 0x00000000#32) reducesTo_S1024_S_d0 h_S_)
      (maximumf (Host.reduceAdd w (constant S_ .f32 0x00000000#32) reducesTo_S1024_S_d0 h_S_) (constant S_ .f32 0x3F800000#32)))
    (mulf (Host.reduceAdd lg (constant S_ .f32 0x00000000#32) reducesTo_S16x13x256x256_S_d0_1_2_3 h_S_) (constant S_ .f32 0x00000000#32))

/-- The reference's result. -/
def outv (lg : FVec Ideal S16x13x256x256 .f32) (l f : IVec S16x256x256 32) : FVec Ideal S_ .f32 :=
  final lg (ce (mean (sums lg f) (counts f)) (label (hist f l))) (weight (counts f))

/-! Reading a buffer of the reference at the type of the array it holds changes nothing. -/

theorem of_v31 (x) (a b c) : (StableHlo.TRef.of main_v31 a b c : StableHlo.TRef sig ⟨S1024x13, .f32⟩).ofBuf (Val := Elt Ideal) x = x := rfl
theorem of_v28 (x) (a b c) : (StableHlo.TRef.of main_v28 a b c : StableHlo.TRef sig ⟨S1024x13, .f32⟩).ofBuf (Val := Elt Ideal) x = x := rfl
theorem of_v34 (x) (a b c) : (StableHlo.TRef.of main_v34 a b c : StableHlo.TRef sig ⟨S1024, .i1⟩).ofBuf (Val := Elt Ideal) x = x := rfl
theorem of_v35 (x) (a b c) : (StableHlo.TRef.of main_v35 a b c : StableHlo.TRef sig ⟨S1024, .i32⟩).ofBuf (Val := Elt Ideal) x = x := rfl
theorem of_v36 (x) (a b c) : (StableHlo.TRef.of main_v36 a b c : StableHlo.TRef sig ⟨S1024, .i32⟩).ofBuf (Val := Elt Ideal) x = x := rfl
theorem of_v21 (x) (a b c) : (StableHlo.TRef.of main_v21 a b c : StableHlo.TRef sig ⟨S1024x13, .f32⟩).ofBuf (Val := Elt Ideal) x = x := rfl
theorem of_v38 (x) (a b c) : (StableHlo.TRef.of main_v38 a b c : StableHlo.TRef sig ⟨S1024x13, .f32⟩).ofBuf (Val := Elt Ideal) x = x := rfl
theorem of_v39 (x) (a b c) : (StableHlo.TRef.of main_v39 a b c : StableHlo.TRef sig ⟨S1024x1, .i32⟩).ofBuf (Val := Elt Ideal) x = x := rfl
theorem of_v45 (x) (a b c) : (StableHlo.TRef.of main_v45 a b c : StableHlo.TRef sig ⟨S1024, .i32⟩).ofBuf (Val := Elt Ideal) x = x := rfl
theorem of_c_10 (x) (a b c) : (StableHlo.TRef.of main_c_10 a b c : StableHlo.TRef sig ⟨S_, .i32⟩).ofBuf (Val := Elt Ideal) x = x := rfl
theorem of_v54 (x) (a b c) : (StableHlo.TRef.of main_v54 a b c : StableHlo.TRef sig ⟨S_, .i1⟩).ofBuf (Val := Elt Ideal) x = x := rfl
theorem of_v56 (x) (a b c) : (StableHlo.TRef.of main_v56 a b c : StableHlo.TRef sig ⟨S_, .f32⟩).ofBuf (Val := Elt Ideal) x = x := rfl
theorem of_v58 (x) (a b c) : (StableHlo.TRef.of main_v58 a b c : StableHlo.TRef sig ⟨S_, .f32⟩).ofBuf (Val := Elt Ideal) x = x := rfl
theorem to_v35 (x) (a b c) : (StableHlo.TRef.of main_v35 a b c : StableHlo.TRef sig ⟨S1024, .i32⟩).toBuf (Val := Elt Ideal) x = x := rfl
theorem to_v36 (x) (a b c) : (StableHlo.TRef.of main_v36 a b c : StableHlo.TRef sig ⟨S1024, .i32⟩).toBuf (Val := Elt Ideal) x = x := rfl
theorem to_v37 (x) (a b c) : (StableHlo.TRef.of main_v37 a b c : StableHlo.TRef sig ⟨S1024, .i32⟩).toBuf (Val := Elt Ideal) x = x := rfl
theorem to_v38 (x) (a b c) : (StableHlo.TRef.of main_v38 a b c : StableHlo.TRef sig ⟨S1024x13, .f32⟩).toBuf (Val := Elt Ideal) x = x := rfl
theorem to_v40 (x) (a b c) : (StableHlo.TRef.of main_v40 a b c : StableHlo.TRef sig ⟨S1024x1, .f32⟩).toBuf (Val := Elt Ideal) x = x := rfl
theorem to_v46 (x) (a b c) : (StableHlo.TRef.of main_v46 a b c : StableHlo.TRef sig ⟨S1024, .i32⟩).toBuf (Val := Elt Ideal) x = x := rfl
theorem to_v59 (x) (a b c) : (StableHlo.TRef.of main_v59 a b c : StableHlo.TRef sig ⟨S_, .f32⟩).toBuf (Val := Elt Ideal) x = x := rfl

variable (m : (ℓ : Loc nD τ sig) → Buf (Elt Ideal) ℓ) (ρ : Dev nD → PrngReg)

set_option maxHeartbeats 4000000 in
/-- The reference runs, its result buffer ends at `outv` of its arguments, which end unchanged. -/
theorem run : θ_run (defs (F := Ideal)) (onTc (τ := τ) (main (F := Ideal))) ⟨m, fun _ => 0, ρ⟩ fun r => ∀ c : Dev nD,
      r.2.mem ((c.tc : Thread nD τ).loc main_v59)
          = outv (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  hlo_run
  simp only [StableHlo.TRef.ofBuf_toBuf, of_v31, of_v28, of_v34, of_v35, of_v36, of_v21, of_v38, of_v39, of_v45, of_c_10, of_v54, of_v56, of_v58, to_v35, to_v36, to_v37, to_v38, to_v40, to_v46, to_v59]
  simp only [outv, final, weight, fieldOf, divisor, ce, taken, inRow, wrapped, logSoftmax, centred, label, argmax, hasValid, validHist, hist, mean, counts, sums, ones, seg, rows]
  rfl

/-- The reference's frame: it runs, its arguments end unchanged, every counter ends at zero. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run (defs (F := Ideal)) _ _).mono (fun r h => ⟨fun c => (h c).2, sem_eq_zero_of_no_sems (by decide) r.2⟩) (run m ρ)

end Cert.ReferenceIdeal.Val

end
-- ==== Proof.Scatter.lean ====
/- Where the updates of the reference's scatters land, and the accumulating scatters read as sums over the updates. -/
module

public import proofs.«01_k».proof.Proof.RefRun
public import Idealize.ShloMosaic.Lib.Routing.OpsOne
public import Idealize.ShloMosaic.Lib.Pointwise
public import Idealize.ShloMosaic.Lib.Pipeline.ValueKit

@[expose] public section

set_option maxRecDepth 16384

noncomputable section

namespace Cert.ReferenceIdeal.Val

open Idealize.ShloMosaic Idealize.ShloMosaic.TcCoe Idealize.SL.Sem Idealize.ShloMosaic.Routing
open Cert.ReferenceIdeal Cert.ReferenceIdeal.Facts₀

/-- Row `n` of the updates lands, class by class, at the row its index word names. -/
theorem lands_rows (idx : IVec S1048576x1 32) (n : Fin 1048576) (k' : Fin 13) (r : Fin 1024) (k : Fin 13) :
    scatter_S1024x13_S1048576x1_S1048576x13_1_0_0_1.resultIdx? (ix2 n k') idx = some (ix2 r k)
      ↔ (idx (ix2 n 0)).toInt = (r : ℤ) ∧ k' = k := by
  have h0 : scatter_S1024x13_S1048576x1_S1048576x13_1_0_0_1.window (ix2 n k') 0 = 0 := rfl
  have h1 : scatter_S1024x13_S1048576x1_S1048576x13_1_0_0_1.window (ix2 n k') 1 = k'.val := rfl
  have s1 : scatter_S1024x13_S1048576x1_S1048576x13_1_0_0_1.start (ix2 n k') idx 1 = 0 := rfl
  have s0 : scatter_S1024x13_S1048576x1_S1048576x13_1_0_0_1.start (ix2 n k') idx 0 = (idx (ix2 n 0)).toInt := by
    show (idx _).toInt = _
    congr 2
    funext a
    match a with
    | ⟨0, _⟩ => rfl
    | ⟨1, _⟩ => rfl
  refine (resultIdx?_ix2 (R := 1024) (C := 13) _ _ _ _ _).trans ?_
  rw [h0, h1, s0, s1]
  constructor
  · rintro ⟨a, b⟩
    exact ⟨by omega, Fin.ext (by omega)⟩
  · rintro ⟨a, rfl⟩
    exact ⟨by omega, by omega⟩

/-- Entry `n` of the updates lands at the segment its index word names. -/
theorem lands_segment (idx : IVec S1048576x1 32) (n : Fin 1048576) (r : Fin 1024) :
    scatter_S1024_S1048576x1_S1048576_n_0_0_1.resultIdx? (ix1 n) idx = some (ix1 r) ↔ (idx (ix2 n 0)).toInt = (r : ℤ) := by
  have h0 : scatter_S1024_S1048576x1_S1048576_n_0_0_1.window (ix1 n) 0 = 0 := rfl
  have s0 : scatter_S1024_S1048576x1_S1048576_n_0_0_1.start (ix1 n) idx 0 = (idx (ix2 n 0)).toInt := by
    show (idx _).toInt = _
    congr 2
    funext a
    match a with
    | ⟨0, _⟩ => rfl
    | ⟨1, _⟩ => rfl
  refine (resultIdx?_ix1 (N := 1024) _ _ _ _).trans ?_
  rw [h0, s0]
  omega

/-- Entry `n` of the updates lands at the segment and label its index word names. -/
theorem lands_bin (idx : IVec S1048576x1 32) (n : Fin 1048576) (r : Fin 13312) :
    scatter_S13312_S1048576x1_S1048576_n_0_0_1.resultIdx? (ix1 n) idx = some (ix1 r) ↔ (idx (ix2 n 0)).toInt = (r : ℤ) := by
  have h0 : scatter_S13312_S1048576x1_S1048576_n_0_0_1.window (ix1 n) 0 = 0 := rfl
  have s0 : scatter_S13312_S1048576x1_S1048576_n_0_0_1.start (ix1 n) idx 0 = (idx (ix2 n 0)).toInt := by
    show (idx _).toInt = _
    congr 2
    funext a
    match a with
    | ⟨0, _⟩ => rfl
    | ⟨1, _⟩ => rfl
  refine (resultIdx?_ix1 (N := 13312) _ _ _ _).trans ?_
  rw [h0, s0]
  omega

/-- The sum of the rows of updates that land at a row. -/
theorem scatter_rows (x : FVec Ideal S1024x13 .f32) (idx : IVec S1048576x1 32) (u : FVec Ideal S1048576x13 .f32) (r : Fin 1024) (k : Fin 13) :
    Host.scatterAdd scatter_S1024x13_S1048576x1_S1048576x13_1_0_0_1 x idx u (ix2 r k)
      = x (ix2 r k) + ∑ n : Fin 1048576, if (idx (ix2 n 0)).toInt = (r : ℤ) then u (ix2 n k) else (0 : EReal) := by
  show Ideal.hostScatterAdd _ x idx u (ix2 r k) = _
  unfold Ideal.hostScatterAdd
  refine congrArg (fun z : EReal => x (ix2 r k) + z) ?_
  rw [Finset.sum_filter, Idealize.ShloMosaic.sum_idx2]
  refine Finset.sum_congr rfl fun n _ => ?_
  simp only [lands_rows, ite_and]
  by_cases h : (idx (ix2 n 0)).toInt = (r : ℤ)
  · simp [h]
  · simp [h]

/-- The sum of the updates that land at a segment. -/
theorem scatter_segment (x : FVec Ideal S1024 .f32) (idx : IVec S1048576x1 32) (u : FVec Ideal S1048576 .f32) (r : Fin 1024) :
    Host.scatterAdd scatter_S1024_S1048576x1_S1048576_n_0_0_1 x idx u (ix1 r)
      = x (ix1 r) + ∑ n : Fin 1048576, if (idx (ix2 n 0)).toInt = (r : ℤ) then u (ix1 n) else (0 : EReal) := by
  show Ideal.hostScatterAdd _ x idx u (ix1 r) = _
  unfold Ideal.hostScatterAdd
  refine congrArg (fun z : EReal => x (ix1 r) + z) ?_
  rw [Finset.sum_filter, Idealize.ShloMosaic.sum_idx1]
  simp only [lands_segment]

/-- The sum of the updates that land at a segment and label. -/
theorem scatter_bin (x : FVec Ideal S13312 .f32) (idx : IVec S1048576x1 32) (u : FVec Ideal S1048576 .f32) (r : Fin 13312) :
    Host.scatterAdd scatter_S13312_S1048576x1_S1048576_n_0_0_1 x idx u (ix1 r)
      = x (ix1 r) + ∑ n : Fin 1048576, if (idx (ix2 n 0)).toInt = (r : ℤ) then u (ix1 n) else (0 : EReal) := by
  show Ideal.hostScatterAdd _ x idx u (ix1 r) = _
  unfold Ideal.hostScatterAdd
  refine congrArg (fun z : EReal => x (ix1 r) + z) ?_
  rw [Finset.sum_filter, Idealize.ShloMosaic.sum_idx1]
  simp only [lands_bin]

/-- The histogram with column 0 cleared. -/
theorem validHist_at (h : FVec Ideal S1024x13 .f32) (r : Fin 1024) (k : Fin 13) :
    validHist h (ix2 r k) = if k = 0 then (0 : EReal) else h (ix2 r k) := by
  have hl : ∀ (j : Fin 1024), scatter_S1024x13_S1_S1024_0_1_1_0.resultIdx? (ix1 j)
      (broadcastInDim S1 ![] bcast_S_S1 (constantI S_ 32 0#32)) = some (ix2 r k) ↔ j = r ∧ k = 0 := fun j =>
    lands_col (A := 1024) (N := 13) scatter_S1024x13_S1_S1024_0_1_1_0 rfl rfl
      (broadcastInDim S1 ![] bcast_S_S1 (constantI S_ 32 0#32)) (0 : Fin 13) rfl j r k
  have h0 : ∀ j : S1024.Idx, broadcastInDim S1024 ![] bcast_S_S1024 (constant (F := Ideal) S_ .f32 0x00000000#32) j = (0 : EReal) := fun j => by
    idx_vars j
    pointwise
  unfold validHist
  by_cases hk : k = 0
  · rw [if_pos hk]
    exact scatter_set_hit _ _ _ _ _ _ (fun j _ => h0 j) (ix1 r) ((hl r).2 ⟨rfl, hk⟩)
  · rw [if_neg hk]
    exact scatter_set_miss _ _ _ _ _ (fun j q => hk ((hl (j 0)).1 ((congrArg (fun z => scatter_S1024x13_S1_S1024_0_1_1_0.resultIdx? z _)
      (ValueIdx.eq_ix1 j).symm).trans q)).2)

/-- Every pixel counts one. -/
theorem ones_at (n : Fin 1048576) : ones (ix1 n) = (1 : EReal) := by
  pointwise [ones]

/-- The logits of pixel `n` of all images. -/
theorem rows_at (lg : FVec Ideal S16x13x256x256 .f32) (n : Fin 1048576) (k : Fin 13) :
    rows lg (ix2 n k) = lg (ix4 ⟨n / 65536, by omega⟩ k ⟨n / 256 % 256, by omega⟩ ⟨n % 256, by omega⟩) := by
  pointwise [rows]

/-- The segment of pixel `n` of all images. -/
theorem seg_at (f : IVec S16x256x256 32) (n : Fin 1048576) :
    seg f (ix1 n) = BitVec.ofNat 32 (n / 65536) * 64#32 + f (ix3 ⟨n / 65536, by omega⟩ ⟨n / 256 % 256, by omega⟩ ⟨n % 256, by omega⟩) := by
  pointwise [seg]
  rfl

/-- The segment and label of pixel `n` of all images. -/
theorem bin_at (f l : IVec S16x256x256 32) (n : Fin 1048576) :
    addi (muli (seg f) (broadcastInDim S1048576 ![] bcast_S_S1048576 (constantI S_ 32 13#32)))
        (shapeCast S1048576 l shapeCasts_S16x256x256_S1048576) (ix1 n)
      = (BitVec.ofNat 32 (n / 65536) * 64#32 + f (ix3 ⟨n / 65536, by omega⟩ ⟨n / 256 % 256, by omega⟩ ⟨n % 256, by omega⟩)) * 13#32
        + l (ix3 ⟨n / 65536, by omega⟩ ⟨n / 256 % 256, by omega⟩ ⟨n % 256, by omega⟩) := by
  pointwise [seg]
  rfl

/-- The sums of the logits, read at a segment and class. -/
theorem sums_at (lg : FVec Ideal S16x13x256x256 .f32) (f : IVec S16x256x256 32) (r : Fin 1024) (k : Fin 13) :
    sums lg f (ix2 r k) = ∑ n : Fin 1048576, if (seg f (ix1 n)).toInt = (r : ℤ) then rows lg (ix2 n k) else (0 : EReal) := by
  refine (scatter_rows _ _ _ r k).trans ?_
  have h0 : broadcastInDim S1024x13 ![] bcast_S_S1024x13 (constant (F := Ideal) S_ .f32 0x00000000#32) (ix2 r k) = (0 : EReal) := by
    pointwise
  have h1 : ∀ n : Fin 1048576, broadcastInDim S1048576x1 ![0] bcast_S1048576_S1048576x1_0 (seg f) (ix2 n 0) = seg f (ix1 n) := fun n => by
    pointwise
  rw [h0]
  exact (zero_add _).trans (Finset.sum_congr rfl fun n _ => by rw [h1])

/-- The number of pixels, read at a segment. -/
theorem counts_at (f : IVec S16x256x256 32) (r : Fin 1024) :
    counts f (ix1 r) = ∑ n : Fin 1048576, if (seg f (ix1 n)).toInt = (r : ℤ) then 1 else (0 : EReal) := by
  refine (scatter_segment _ _ _ r).trans ?_
  have h0 : broadcastInDim S1024 ![] bcast_S_S1024 (constant (F := Ideal) S_ .f32 0x00000000#32) (ix1 r) = (0 : EReal) := by
    pointwise
  have h1 : ∀ n : Fin 1048576, broadcastInDim S1048576x1 ![0] bcast_S1048576_S1048576x1_0 (seg f) (ix2 n 0) = seg f (ix1 n) := fun n => by
    pointwise
  rw [h0]
  exact (zero_add _).trans (Finset.sum_congr rfl fun n _ => by rw [h1, ones_at])

/-- The number of pixels, read at a segment and label. -/
theorem hist_at (f l : IVec S16x256x256 32) (r : Fin 1024) (k : Fin 13) :
    hist f l (ix2 r k) = ∑ n : Fin 1048576,
      if (addi (muli (seg f) (broadcastInDim S1048576 ![] bcast_S_S1048576 (constantI S_ 32 13#32)))
        (shapeCast S1048576 l shapeCasts_S16x256x256_S1048576) (ix1 n)).toInt = ((13 * r + k : ℕ) : ℤ) then 1 else (0 : EReal) := by
  have hc : ∀ y : FVec Ideal S13312 .f32, shapeCast S1024x13 y shapeCasts_S13312_S1024x13 (ix2 r k)
      = y (ix1 ⟨13 * r + k, by omega⟩) := fun y => by
    pointwise
    blk_ext
  refine (hc _).trans ((scatter_bin _ _ _ ⟨13 * r + k, by omega⟩).trans ?_)
  have h0 : broadcastInDim S13312 ![] bcast_S_S13312 (constant (F := Ideal) S_ .f32 0x00000000#32) (ix1 ⟨13 * r + k, by omega⟩) = (0 : EReal) := by
    pointwise
  rw [h0]
  refine (zero_add _).trans (Finset.sum_congr rfl fun n _ => ?_)
  rw [ones_at]
  have h1 : ∀ y : IVec S1048576 32, broadcastInDim S1048576x1 ![0] bcast_S1048576_S1048576x1_0 y (ix2 n 0) = y (ix1 n) := fun y => by
    pointwise
  rw [h1]

end Cert.ReferenceIdeal.Val

end
-- ==== Proof.Segments.lean ====
/- The segment sums of the reference are the field sums of the kernel's first region, when every field id is below 64 and
   every label below 13. -/
module

public import proofs.«01_k».proof.Proof.SegValue
public import proofs.«01_k».proof.Proof.Scatter

@[expose] public section

set_option maxRecDepth 16384

noncomputable section

namespace Cert.Proof

open Idealize.ShloMosaic Idealize.ShloMosaic.TcCoe
open Cert.KernelIdeal (S16x64x13)
open Cert.ReferenceIdeal (S16x13x256x256 S16x256x256 S1024x13 S1024)
open Cert.KernelIdeal.Val (hot fieldSums fieldHist)
open Cert.ReferenceIdeal.Val

theorem hot_mul (a v : BitVec 32) (x : EReal) : hot a v * x = if a = v then x else 0 := by
  unfold hot
  split <;> simp

/-- The segment number of a pixel, as an integer. -/
theorem seg_toInt (f : IVec S16x256x256 32) (hf : ∀ i, (f i).toNat < 64) (b : Fin 16) (t : Fin 65536) :
    (seg f (ix1 ⟨b * 65536 + t, by omega⟩)).toInt
      = ((64 * b + (f (ix3 b ⟨t / 256, by omega⟩ ⟨t % 256, by omega⟩)).toNat : ℕ) : ℤ) := by
  rw [seg_at]
  have hb : (⟨(b.val * 65536 + t.val) / 65536, by omega⟩ : Fin 16) = b := Fin.ext (by show (b.val * 65536 + t.val) / 65536 = _; omega)
  have h1 : (⟨(b.val * 65536 + t.val) / 256 % 256, by omega⟩ : Fin 256) = ⟨t / 256, by omega⟩ :=
    Fin.ext (by show (b.val * 65536 + t.val) / 256 % 256 = t.val / 256; omega)
  have h2 : (⟨(b.val * 65536 + t.val) % 256, by omega⟩ : Fin 256) = ⟨t % 256, by omega⟩ :=
    Fin.ext (by show (b.val * 65536 + t.val) % 256 = t.val % 256; omega)
  have h3 : (b.val * 65536 + t.val) / 65536 = b.val := by omega
  simp only [hb, h1, h2, h3]
  have hw := hf (ix3 b ⟨t / 256, by omega⟩ ⟨t % 256, by omega⟩)
  generalize f (ix3 b ⟨t / 256, _⟩ ⟨t % 256, _⟩) = w at hw ⊢
  have hn : (BitVec.ofNat 32 b.val * 64#32 + w).toNat = 64 * b + w.toNat := by
    rw [BitVec.toNat_add, BitVec.toNat_mul, BitVec.toNat_ofNat]
    norm_num
    omega
  rw [BitVec.toInt_eq_toNat_of_lt (by omega), hn]

/-- The segment and label number of a pixel, as an integer. -/
theorem bin_toInt (f l : IVec S16x256x256 32) (hf : ∀ i, (f i).toNat < 64) (hl : ∀ i, (l i).toNat < 13) (b : Fin 16) (t : Fin 65536) :
    (addi (muli (seg f) (broadcastInDim Cert.ReferenceIdeal.S1048576 ![] Cert.ReferenceIdeal.Facts₀.bcast_S_S1048576 (constantI Cert.ReferenceIdeal.S_ 32 13#32)))
        (shapeCast Cert.ReferenceIdeal.S1048576 l Cert.ReferenceIdeal.Facts₀.shapeCasts_S16x256x256_S1048576) (ix1 ⟨b * 65536 + t, by omega⟩)).toInt
      = ((13 * (64 * b + (f (ix3 b ⟨t / 256, by omega⟩ ⟨t % 256, by omega⟩)).toNat)
          + (l (ix3 b ⟨t / 256, by omega⟩ ⟨t % 256, by omega⟩)).toNat : ℕ) : ℤ) := by
  rw [bin_at]
  have hb : (⟨(b.val * 65536 + t.val) / 65536, by omega⟩ : Fin 16) = b := Fin.ext (by show (b.val * 65536 + t.val) / 65536 = _; omega)
  have h1 : (⟨(b.val * 65536 + t.val) / 256 % 256, by omega⟩ : Fin 256) = ⟨t / 256, by omega⟩ :=
    Fin.ext (by show (b.val * 65536 + t.val) / 256 % 256 = t.val / 256; omega)
  have h2 : (⟨(b.val * 65536 + t.val) % 256, by omega⟩ : Fin 256) = ⟨t % 256, by omega⟩ :=
    Fin.ext (by show (b.val * 65536 + t.val) % 256 = t.val % 256; omega)
  have h3 : (b.val * 65536 + t.val) / 65536 = b.val := by omega
  simp only [hb, h1, h2, h3]
  have hw := hf (ix3 b ⟨t / 256, by omega⟩ ⟨t % 256, by omega⟩)
  have hv := hl (ix3 b ⟨t / 256, by omega⟩ ⟨t % 256, by omega⟩)
  generalize f (ix3 b ⟨t / 256, _⟩ ⟨t % 256, _⟩) = w at hw ⊢
  generalize l (ix3 b ⟨t / 256, _⟩ ⟨t % 256, _⟩) = v at hv ⊢
  have hn : ((BitVec.ofNat 32 b.val * 64#32 + w) * 13#32 + v).toNat = 13 * (64 * b + w.toNat) + v.toNat := by
    rw [BitVec.toNat_add, BitVec.toNat_mul, BitVec.toNat_add, BitVec.toNat_mul, BitVec.toNat_ofNat]
    norm_num
    omega
  rw [BitVec.toInt_eq_toNat_of_lt (by omega), hn]

/-- A sum over all pixels of what lies in image `b` alone. -/
theorem sum_image (b : Fin 16) (p : Fin 1048576 → EReal) (q : Fin 65536 → EReal)
    (hq : ∀ t : Fin 65536, p ⟨b * 65536 + t, by omega⟩ = q t)
    (hp : ∀ (b' : Fin 16) (t : Fin 65536), b' ≠ b → p ⟨b' * 65536 + t, by omega⟩ = 0) : ∑ n, p n = ∑ t, q t := by
  rw [Fin.sum_univ_tiles 16 65536 rfl]
  rw [Finset.sum_eq_single b]
  · exact Finset.sum_congr rfl fun t _ => hq t
  · exact fun b' _ hb => Finset.sum_eq_zero fun t _ => hp b' t hb
  · exact fun h => absurd (Finset.mem_univ b) h

/-- The row of segment `64 b + a`. -/
abbrev row (b : Fin 16) (a : Fin 64) : Fin 1024 := ⟨64 * b + a, by omega⟩

/-- A word is the word of a small number exactly when it is that number. -/
theorem ofNat_eq (a : ℕ) (ha : a < 64) (w : BitVec 32) : BitVec.ofNat 32 a = w ↔ w.toNat = a := by
  constructor
  · rintro rfl
    rw [BitVec.toNat_ofNat, Nat.mod_eq_of_lt (by omega)]
  · rintro rfl
    exact BitVec.ofNat_toNat 32 w

/-- The sums of the logits of a segment. -/
theorem sums_eq (lg : FVec Ideal S16x13x256x256 .f32) (f : IVec S16x256x256 32) (hf : ∀ i, (f i).toNat < 64)
    (b : Fin 16) (a : Fin 64) (k : Fin 13) : sums lg f (ix2 (row b a) k) = fieldSums lg f (ix3 b a k) := by
  rw [sums_at]
  refine sum_image b _ _ (fun t => ?_) (fun b' t h => ?_)
  · rw [seg_toInt f hf, rows_at]
    have e : ix4 (⟨(b.val * 65536 + t.val) / 65536, by omega⟩ : Fin 16) k
        (⟨(b.val * 65536 + t.val) / 256 % 256, by omega⟩ : Fin 256) (⟨(b.val * 65536 + t.val) % 256, by omega⟩ : Fin 256)
        = ix4 b k ⟨t / 256, by omega⟩ ⟨t % 256, by omega⟩ := by
      congr 1 <;> exact Fin.ext (by dsimp only; omega)
    refine Eq.trans ?_ (hot_mul _ _ _).symm
    have hw := hf (ix3 b ⟨t / 256, by omega⟩ ⟨t % 256, by omega⟩)
    refine if_congr ?_ (congrArg lg e) rfl
    refine Iff.trans ?_ (ofNat_eq a.val a.isLt _).symm
    show ((64 * b.val + (f (ix3 b ⟨t / 256, by omega⟩ ⟨t % 256, by omega⟩)).toNat : ℕ) : ℤ) = ((64 * b.val + a.val : ℕ) : ℤ)
      ↔ (f (ix3 b ⟨t / 256, by omega⟩ ⟨t % 256, by omega⟩)).toNat = a.val
    omega
  · rw [seg_toInt f hf]
    have := hf (ix3 b' ⟨t / 256, by omega⟩ ⟨t % 256, by omega⟩)
    exact if_neg fun h' => h (Fin.ext (by simp only [row] at h'; omega))

/-- The number of pixels of a segment with a label. -/
theorem hist_eq (f l : IVec S16x256x256 32) (hf : ∀ i, (f i).toNat < 64) (hl : ∀ i, (l i).toNat < 13)
    (b : Fin 16) (a : Fin 64) (k : Fin 13) : hist f l (ix2 (row b a) k) = fieldHist f l (ix3 b a k) := by
  rw [hist_at]
  refine sum_image b _ _ (fun t => ?_) (fun b' t h => ?_)
  · rw [bin_toInt f l hf hl]
    refine Eq.trans ?_ (hot_mul _ _ _).symm
    unfold hot
    have hw := hf (ix3 b ⟨t / 256, by omega⟩ ⟨t % 256, by omega⟩)
    have hv := hl (ix3 b ⟨t / 256, by omega⟩ ⟨t % 256, by omega⟩)
    rw [← ite_and]
    refine if_congr ?_ rfl rfl
    refine Iff.trans ?_ (and_congr (ofNat_eq a.val a.isLt _) (ofNat_eq k.val (by omega) _)).symm
    show ((13 * (64 * b.val + (f (ix3 b ⟨t / 256, by omega⟩ ⟨t % 256, by omega⟩)).toNat)
        + (l (ix3 b ⟨t / 256, by omega⟩ ⟨t % 256, by omega⟩)).toNat : ℕ) : ℤ) = ((13 * (64 * b.val + a.val) + k.val : ℕ) : ℤ)
      ↔ (f (ix3 b ⟨t / 256, by omega⟩ ⟨t % 256, by omega⟩)).toNat = a.val
        ∧ (l (ix3 b ⟨t / 256, by omega⟩ ⟨t % 256, by omega⟩)).toNat = k.val
    omega
  · rw [bin_toInt f l hf hl]
    have := hf (ix3 b' ⟨t / 256, by omega⟩ ⟨t % 256, by omega⟩)
    have := hl (ix3 b' ⟨t / 256, by omega⟩ ⟨t % 256, by omega⟩)
    exact if_neg fun h' => h (Fin.ext (by simp only [row] at h'; omega))

/-- The number of pixels of a segment is the sum over the labels of the numbers of its pixels with that label. -/
theorem counts_eq (f l : IVec S16x256x256 32) (hl : ∀ i, (l i).toNat < 13) (hf : ∀ i, (f i).toNat < 64) (r : Fin 1024) :
    counts f (ix1 r) = ∑ k : Fin 13, hist f l (ix2 r k) := by
  rw [counts_at]
  simp only [hist_at]
  rw [Finset.sum_comm]
  rw [Fin.sum_univ_tiles 16 65536 rfl, Fin.sum_univ_tiles 16 65536 rfl]
  refine Finset.sum_congr rfl fun b _ => Finset.sum_congr rfl fun t _ => ?_
  rw [seg_toInt f hf]
  simp only [bin_toInt f l hf hl]
  have hw := hf (ix3 b ⟨t / 256, by omega⟩ ⟨t % 256, by omega⟩)
  have hv := hl (ix3 b ⟨t / 256, by omega⟩ ⟨t % 256, by omega⟩)
  generalize f (ix3 b ⟨t / 256, _⟩ ⟨t % 256, _⟩) = w at hw ⊢
  generalize l (ix3 b ⟨t / 256, _⟩ ⟨t % 256, _⟩) = v at hv ⊢
  rw [Finset.sum_eq_single (⟨v.toNat, hv⟩ : Fin 13)]
  · refine if_congr ?_ rfl rfl
    show ((64 * b.val + w.toNat : ℕ) : ℤ) = (r.val : ℤ) ↔ ((13 * (64 * b.val + w.toNat) + v.toNat : ℕ) : ℤ) = ((13 * r.val + v.toNat : ℕ) : ℤ)
    omega
  · intro k _ hk
    refine if_neg fun h => hk (Fin.ext ?_)
    show k.val = v.toNat
    omega
  · exact fun h => absurd (Finset.mem_univ _) h

end Cert.Proof

end
-- ==== Proof.Argmax.lean ====
/- The first index at which a row of 13 numbers is largest, and the two ways the programs compute it: a reduction that
   carries the largest number with its index, and the least index among those that reach the largest number. -/
module

public import proofs.«01_k».proof.Proof.RefRun
public import Idealize.ShloMosaic.Lib.Pointwise
public import Idealize.ShloMosaic.Lib.Affine

@[expose] public section

set_option maxRecDepth 16384

noncomputable section

namespace Cert.Proof

open Idealize.ShloMosaic Idealize.ShloMosaic.TcCoe

/-- `L` is the first index at which `h` is largest. -/
def IsFirstMax (h : Fin 13 → EReal) (L : Fin 13) : Prop := (∀ k, h k ≤ h L) ∧ ∀ k < L, h k < h L

/-- Every row has a first index at which it is largest. -/
theorem exists_firstMax (h : Fin 13 → EReal) : ∃ L, IsFirstMax h L := by
  classical
  have hne : (Finset.univ.filter fun L : Fin 13 => ∀ k, h k ≤ h L).Nonempty := by
    obtain ⟨L, -, hL⟩ := Finset.exists_max_image Finset.univ h Finset.univ_nonempty
    exact ⟨L, Finset.mem_filter.2 ⟨Finset.mem_univ _, fun k => hL k (Finset.mem_univ _)⟩⟩
  have hm := Finset.min'_mem _ hne
  refine ⟨_, (Finset.mem_filter.1 hm).2, fun k hk => ?_⟩
  refine lt_of_le_of_ne ((Finset.mem_filter.1 hm).2 k) fun e => ?_
  exact absurd (Finset.min'_le _ k (Finset.mem_filter.2 ⟨Finset.mem_univ _, fun k' => e ▸ (Finset.mem_filter.1 hm).2 k'⟩)) (not_le.2 hk)

/-- The largest number of a row, as the maximum of its entries. -/
theorem fold_max (h : Fin 13 → EReal) (L : Fin 13) (hL : ∀ k, h k ≤ h L) : Finset.fold max ⊥ h Finset.univ = h L := by
  refine le_antisymm ?_ ?_
  · exact Finset.fold_max_le _ |>.2 ⟨bot_le, fun k _ => hL k⟩
  · exact (Finset.le_fold_max _).2 (Or.inr ⟨L, Finset.mem_univ _, le_rfl⟩)

/-- The least index among those that reach the largest number. -/
theorem min_label (h : Fin 13 → EReal) (L : Fin 13) (hL : IsFirstMax h L) :
    Finset.fold IntOp.minsi (2147483647#32) (fun k : Fin 13 => if h k = Finset.fold max ⊥ h Finset.univ then BitVec.ofNat 32 k else 13#32) Finset.univ
      = BitVec.ofNat 32 L := by
  rw [fold_max h L hL.1]
  have hm : ∀ x y : BitVec 32, (IntOp.minsi x y).toInt = min x.toInt y.toInt := fun x y => by
    unfold IntOp.minsi
    rw [BitVec.slt_eq_decide]
    by_cases hxy : x.toInt < y.toInt
    · simp [hxy, min_eq_left hxy.le]
    · simp [hxy, min_eq_right (not_lt.1 hxy)]
  have hn : ∀ k : Fin 13, (BitVec.ofNat 32 k).toInt = (k : ℤ) := by decide
  refine BitVec.eq_of_toInt_eq ?_
  rw [hn, ← Finset.fold_hom (op := IntOp.minsi) (op' := min) (m := BitVec.toInt) hm]
  refine le_antisymm ?_ ?_
  · exact (Finset.fold_min_le _).2 (Or.inr ⟨L, Finset.mem_univ _, by rw [if_pos rfl, hn]⟩)
  · refine (Finset.le_fold_min _).2 ⟨?_, fun k _ => ?_⟩
    · have := L.isLt
      show (L : ℤ) ≤ 2147483647
      omega
    · by_cases hk : h k = h L
      · rw [if_pos hk, hn]
        by_contra hlt
        have hlt' : k < L := by rw [Fin.lt_def]; omega
        exact absurd hk (hL.2 k hlt').ne
      · rw [if_neg hk]
        have := L.isLt
        show (L : ℤ) ≤ 13
        omega

variable {α β : Type}

/-- A fold that keeps one of two arguments, the greater in a preorder, ends at an element at least as great as all. -/
theorem foldl_greatest (le : α → α → Prop) (rfl' : ∀ a, le a a) (tr : ∀ a b c, le a b → le b c → le a c) (f : α → α → α)
    (hf : ∀ a b, (f a b = a ∨ f a b = b) ∧ le a (f a b) ∧ le b (f a b)) (l : List α) (a : α) :
    (l.foldl f a = a ∨ l.foldl f a ∈ l) ∧ le a (l.foldl f a) ∧ ∀ b ∈ l, le b (l.foldl f a) := by
  induction l generalizing a with
  | nil => exact ⟨Or.inl rfl, rfl' a, fun b hb => absurd hb (List.not_mem_nil)⟩
  | cons x l ih =>
    obtain ⟨h1, h2, h3⟩ := ih (f a x)
    obtain ⟨g1, g2, g3⟩ := hf a x
    refine ⟨?_, tr _ _ _ g2 h2, ?_⟩
    · rcases h1 with h1 | h1
      · rcases g1 with g1 | g1
        · exact Or.inl (h1.trans g1)
        · exact Or.inr (List.mem_cons.2 (Or.inl (h1.trans g1)))
      · exact Or.inr (List.mem_cons.2 (Or.inr h1))
    · intro b hb
      rcases List.mem_cons.1 hb with rfl | hb
      · exact tr _ _ _ g3 h2
      · exact h3 b hb

/-- The order the carried pairs are compared by: by the number, and at equal numbers by the index, reversed. -/
def pairLe (p q : EReal × BitVec 32) : Prop := p.1 < q.1 ∨ p.1 = q.1 ∧ q.2.toInt ≤ p.2.toInt

/-- The reduction keeps the greater of two pairs. -/
theorem reducer_greater (a b : EReal × BitVec 32) :
    (Cert.ReferenceIdeal.reducer_argmax_f32_i32 (F := Ideal) a b = a ∨ Cert.ReferenceIdeal.reducer_argmax_f32_i32 (F := Ideal) a b = b)
      ∧ pairLe a (Cert.ReferenceIdeal.reducer_argmax_f32_i32 (F := Ideal) a b)
      ∧ pairLe b (Cert.ReferenceIdeal.reducer_argmax_f32_i32 (F := Ideal) a b) := by
  obtain ⟨x, i⟩ := a
  obtain ⟨y, j⟩ := b
  have e : Cert.ReferenceIdeal.reducer_argmax_f32_i32 (F := Ideal) (x, i) (y, j)
      = if y < x ∨ (x = y ∧ i.toInt < j.toInt) then (x, i) else (y, j) := by
    have hb : ∀ (p : Prop) [Decidable p], BitVec.ofBool (decide p) = if p then 1#1 else 0#1 := fun p _ => by
      by_cases hp : p <;> simp [hp]
    simp only [Cert.ReferenceIdeal.reducer_argmax_f32_i32, FloatOps.cmpf, Ideal.cmp, Scalar.select, IntOp.ori, IntOp.andi,
      IntOp.cmpi, BitVec.slt_eq_decide, hb]
    rcases lt_trichotomy x y with hxy | hxy | hxy
    · have h1 : ¬ y < x := not_lt.2 hxy.le
      have h2 : x ≠ y := hxy.ne
      simp [h1, h2]
    · subst hxy
      by_cases hij : i.toInt < j.toInt <;> simp [hij]
    · have h2 : x ≠ y := hxy.ne'
      simp [hxy, h2]
  rw [e]
  split
  · rename_i h
    refine ⟨Or.inl rfl, Or.inr ⟨rfl, le_rfl⟩, ?_⟩
    rcases h with h | ⟨h, h'⟩
    · exact Or.inl h
    · exact Or.inr ⟨h.symm, h'.le⟩
  · rename_i h
    rw [not_or, not_and, not_lt] at h
    refine ⟨Or.inr rfl, ?_, Or.inr ⟨rfl, le_rfl⟩⟩
    rcases lt_or_eq_of_le h.1 with h' | h'
    · exact Or.inl h'
    · exact Or.inr ⟨h', not_lt.1 (h.2 h')⟩

end Cert.Proof

namespace Cert.ReferenceIdeal.Val

open Idealize.ShloMosaic Idealize.ShloMosaic.TcCoe Idealize.SL.Sem
open Cert.ReferenceIdeal Cert.ReferenceIdeal.Facts₀ Cert.Proof

/-- The reference's arg-max of a row is the first index at which the row is largest. -/
theorem argmax_at (h : FVec Ideal S1024x13 .f32) (r : Fin 1024) (L : Fin 13) (hL : IsFirstMax (fun k => h (ix2 r k)) L) :
    argmax h (ix1 r) = BitVec.ofNat 32 L := by
  unfold argmax
  rw [Ideal.argReduce_eq_reduce2, Host.reduce2_eq_foldl_fiber]
  have hd : ∀ (r' : Fin 1024) (k : Fin 13), reducesTo_S1024x13_S1024_d1.drop (ix2 r' k) = ix1 r' := fun r' k => by
    funext a
    match a with
    | ⟨0, _⟩ => exact Fin.ext (Shape.ReducesTo.drop_apply_val_of_eq reducesTo_S1024x13_S1024_d1 (ix2 r' k) (0 : Fin 1) (0 : Fin 2))
  have hmem : ∀ p : EReal × BitVec 32, p ∈ Host.argReduceFiber h (iotaInDim S1024x13 32 1) reducesTo_S1024x13_S1024_d1 (ix1 r)
      ↔ ∃ k : Fin 13, p = (h (ix2 r k), BitVec.ofNat 32 k) := by
    intro p
    unfold Host.argReduceFiber
    rw [List.mem_map]
    constructor
    · rintro ⟨n, hn, rfl⟩
      obtain ⟨-, hn⟩ := List.mem_filter.1 hn
      generalize S1024x13.rowMajor.symm n = i at hn ⊢
      obtain ⟨r', k, rfl⟩ : ∃ (r' : Fin 1024) (k : Fin 13), i = ix2 r' k := ⟨i 0, i 1, (ix2_eta i).symm⟩
      have e := congrFun ((hd r' k).symm.trans (of_decide_eq_true hn)) 0
      obtain rfl : r' = r := e
      exact ⟨k, rfl⟩
    · rintro ⟨k, rfl⟩
      refine ⟨S1024x13.rowMajor (ix2 r k), List.mem_filter.2 ⟨List.mem_finRange _, ?_⟩, ?_⟩
      · rw [Equiv.symm_apply_apply]
        exact decide_eq_true (hd r k)
      · rw [Equiv.symm_apply_apply]
        rfl
  have hb : (constant (F := Ideal) S_ .f32 0xFF800000#32 (Shape.Idx.first h_S_) : EReal) = ⊥ := by
    show Ideal.ofBits .f32 0xFF800000#32 = ⊥
    simp [Ideal.ofBits, Ideal.ieee]
  rw [hb]
  have tr : ∀ a b c, pairLe a b → pairLe b c → pairLe a c := by
    rintro a b c (h1 | ⟨h1, h1'⟩) (h2 | ⟨h2, h2'⟩)
    · exact Or.inl (h1.trans h2)
    · exact Or.inl (h2 ▸ h1)
    · exact Or.inl (h1 ▸ h2)
    · exact Or.inr ⟨h1.trans h2, h2'.trans h1'⟩
  obtain ⟨h1, -, h3⟩ := foldl_greatest pairLe (fun a => Or.inr ⟨rfl, le_rfl⟩) tr _ reducer_greater
    (Host.argReduceFiber h (iotaInDim S1024x13 32 1) reducesTo_S1024x13_S1024_d1 (ix1 r)) (⊥, constantI S_ 32 0#32 (Shape.Idx.first h_S_))
  have hn : ∀ k : Fin 13, (BitVec.ofNat 32 k).toInt = (k : ℤ) := by decide
  have hge := h3 _ ((hmem _).2 ⟨L, rfl⟩)
  rcases h1 with h1 | h1
  · rw [h1] at hge ⊢
    rcases hge with hge | ⟨hge, -⟩
    · exact absurd hge not_lt_bot
    · have h0 : L = 0 := by
        by_contra hL0
        have hge' : h (ix2 r L) = (⊥ : EReal) := hge
        have hlt : h (ix2 r 0) < h (ix2 r L) := hL.2 0 (Fin.pos_iff_ne_zero.2 hL0)
        rw [hge'] at hlt
        exact absurd hlt not_lt_bot
      rw [h0]
      rfl
  · obtain ⟨k, hk⟩ := (hmem _).1 h1
    rw [hk] at hge ⊢
    rcases hge with hge | ⟨hge, hge'⟩
    · exact absurd hge (not_lt.2 (hL.1 k))
    · rw [hn, hn] at hge'
      rcases lt_or_eq_of_le (show k ≤ L by rw [Fin.le_def]; omega) with hlt | heq
      · exact absurd hge (hL.2 k hlt).ne'
      · rw [heq]

end Cert.ReferenceIdeal.Val

end
-- ==== Proof.RowMath.lean ====
/- The arithmetic of one row, on extended reals: which numbers are finite, and the two forms of the cross entropy. -/
module

public import proofs.«01_k».proof.Proof.Argmax
public import Idealize.ShloMosaic.Lib.Pointwise

@[expose] public section

set_option maxRecDepth 16384

noncomputable section

namespace Cert.Proof

open Idealize.ShloMosaic Idealize.ShloMosaic.TcCoe

/-- A number that is neither infinity. -/
def Finite (x : EReal) : Prop := ∃ r : ℝ, x = (r : EReal)

theorem Finite.of_ne {x : EReal} (h : x ≠ ⊥ ∧ x ≠ ⊤) : Finite x := ⟨x.toReal, (EReal.coe_toReal h.2 h.1).symm⟩

theorem Finite.zero : Finite 0 := ⟨0, rfl⟩

theorem Finite.one : Finite 1 := ⟨1, rfl⟩

theorem Finite.add {x y : EReal} (hx : Finite x) (hy : Finite y) : Finite (x + y) := by
  obtain ⟨a, rfl⟩ := hx
  obtain ⟨b, rfl⟩ := hy
  exact ⟨a + b, (EReal.coe_add a b).symm⟩

theorem Finite.sum {ι : Type} (s : Finset ι) (f : ι → EReal) (h : ∀ i, Finite (f i)) : Finite (∑ i ∈ s, f i) :=
  Finset.sum_induction f Finite (fun _ _ => Finite.add) Finite.zero fun i _ => h i

/-- A finite number over a finite number not below one is finite. -/
theorem Finite.div_max {x y : EReal} (hx : Finite x) (hy : Finite y) : Finite (Ideal.div x (max y 1)) := by
  obtain ⟨a, rfl⟩ := hx
  obtain ⟨b, rfl⟩ := hy
  have e : max (b : EReal) 1 = ((max b 1 : ℝ) : EReal) := (EReal.coe_strictMono.monotone.map_max (a := b) (b := 1)).symm
  have hne : max b 1 ≠ 0 := (lt_of_lt_of_le one_pos (le_max_right b 1)).ne'
  rw [e, Ideal.div_coe hne, ← EReal.coe_mul]
  exact ⟨_, rfl⟩

/-- The sum of the entries of a row whose index is a given one is the entry at that index. -/
theorem sum_select (m : Fin 13 → EReal) (L : Fin 13) :
    ∑ k : Fin 13, Scalar.select (IntOp.cmpi .eq (BitVec.ofNat 32 k) (BitVec.ofNat 32 L)) (m k) 0 = m L := by
  have e : ∀ k : Fin 13, Scalar.select (IntOp.cmpi .eq (BitVec.ofNat 32 k) (BitVec.ofNat 32 L)) (m k) 0
      = if k = L then m k else 0 := fun k => by
    have hn : BitVec.ofNat 32 k = BitVec.ofNat 32 L ↔ k = L := by
      revert k L; decide
    unfold Scalar.select
    exact if_congr (IntOp.cmpi_eq.trans hn) rfl rfl
  simp only [e, Finset.sum_ite_eq', Finset.mem_univ, if_true]

/-- The cross entropy as minus the logarithm of the softmax, and as the logarithm of the sum of the exponentials less the
    entry: on a row of finite numbers they agree. -/
theorem ce_row (m : Fin 13 → EReal) (hm : ∀ k, Finite (m k)) (L : Fin 13) :
    -(m L - max ⊥ (Finset.fold max ⊥ m Finset.univ)
        - Ideal.log (∑ k, Ideal.exp (m k - max ⊥ (Finset.fold max ⊥ m Finset.univ))))
      = Ideal.log (∑ k, Ideal.exp (m k - Finset.fold max ⊥ m Finset.univ)) + Finset.fold max ⊥ m Finset.univ - m L := by
  obtain ⟨J, hJ⟩ := exists_firstMax m
  rw [fold_max m J hJ.1, max_eq_right bot_le]
  choose μ hμ using hm
  obtain rfl : m = fun k => (μ k : EReal) := funext hμ
  have e : ∑ k : Fin 13, Ideal.exp ((μ k : EReal) - (μ J : EReal)) = ((∑ k : Fin 13, Real.exp (μ k - μ J) : ℝ) : EReal) := by
    refine Eq.trans ?_ (map_sum (⟨⟨Real.toEReal, EReal.coe_zero⟩, EReal.coe_add⟩ : ℝ →+ EReal) _ _).symm
    exact Finset.sum_congr rfl fun k _ => by rw [← EReal.coe_sub, Ideal.exp_coe]; rfl
  have hpos : 0 < ∑ k : Fin 13, Real.exp (μ k - μ J) := Finset.sum_pos (fun k _ => Real.exp_pos _) Finset.univ_nonempty
  dsimp only
  rw [e, Ideal.log_coe, if_neg (not_le.2 hpos)]
  rw [← EReal.coe_sub, ← EReal.coe_sub, ← EReal.coe_neg, ← EReal.coe_add, ← EReal.coe_sub]
  refine congrArg _ ?_
  ring

end Cert.Proof

end
-- ==== Proof.RefRow.lean ====
/- What the reference computes for one segment. -/
module

public import proofs.«01_k».proof.Proof.Scatter
public import proofs.«01_k».proof.Proof.Argmax
public import Idealize.ShloMosaic.Lib.Pointwise

@[expose] public section

set_option maxRecDepth 16384

noncomputable section

namespace Cert.ReferenceIdeal.Val

open Idealize.ShloMosaic Idealize.ShloMosaic.TcCoe Idealize.SL.Sem
open Cert.ReferenceIdeal Cert.ReferenceIdeal.Facts₀ Cert.Proof

/-- The pattern of minus infinity. -/
theorem ofBits_bot : Ideal.ofBits .f32 0xFF800000#32 = ⊥ := by simp [Ideal.ofBits, Ideal.ieee]

theorem mean_at (s : FVec Ideal S1024x13 .f32) (n : FVec Ideal S1024 .f32) (r : Fin 1024) (k : Fin 13) :
    mean s n (ix2 r k) = Ideal.div (s (ix2 r k)) (max (n (ix1 r)) 1) := by
  pointwise [mean]

/-- The label of a segment: of the cleared row when it has a positive sum, else of the whole row. -/
theorem label_at (h : FVec Ideal S1024x13 .f32) (r : Fin 1024) :
    label h (ix1 r) = if 0 < ∑ k, validHist h (ix2 r k) then argmax (validHist h) (ix1 r) else argmax h (ix1 r) := by
  have e : hasValid (validHist h) (ix1 r) = BitVec.ofBool (decide (0 < ∑ k, validHist h (ix2 r k))) := by
    pointwise [hasValid]
  show Scalar.select (hasValid (validHist h) (ix1 r)) _ _ = _
  rw [e]
  unfold Scalar.select
  by_cases hp : 0 < ∑ k, validHist h (ix2 r k)
  · simp only [hp, decide_true, if_true]; rfl
  · simp only [hp, decide_false, if_false]; rfl

theorem logSoftmax_at (x : FVec Ideal S1024x13 .f32) (r : Fin 1024) (k : Fin 13) :
    logSoftmax x (ix2 r k)
      = x (ix2 r k) - max ⊥ (Finset.fold max ⊥ (fun k => x (ix2 r k)) Finset.univ)
        - Ideal.log (∑ k', Ideal.exp (x (ix2 r k') - max ⊥ (Finset.fold max ⊥ (fun k => x (ix2 r k)) Finset.univ))) := by
  rw [← ofBits_bot]
  pointwise [logSoftmax, centred]

/-- The weight of a segment. -/
theorem weight_at (n : FVec Ideal S1024 .f32) (r : Fin 1024) :
    weight n (ix1 r) = FloatOps.uitofp (F := Ideal) .f32
      (IntOp.andi (BitVec.ofBool (decide (0 < n (ix1 r)))) (IntOp.cmpi .ne (fieldOf (ix1 r)) 0#32)) := by
  pointwise [weight]

/-- A segment is field 0 of its image when its number is divisible by 64. -/
theorem fieldOf_at (r : Fin 1024) : IntOp.cmpi .ne (fieldOf (ix1 r)) 0#32 = IntOp.cmpi .ne (IntOp.andi (BitVec.ofNat 32 r) 63#32) 0#32 := by
  pointwise [fieldOf, divisor]
  revert r
  show ∀ r : Fin 1024, _
  decide +kernel

/-- The gather of one entry a row, at an index in range. -/
theorem gather_at (x : FVec Ideal S1024x13 .f32) (k : IVec S1024x1x1 32) (r : Fin 1024) (L : Fin 13)
    (hk : k (ix3 r 0 0) = BitVec.ofNat 32 L) :
    Host.gather gather_S1024x13_S1024x1x1_S1024x1_n_1_0_0_1_2_11 x k (ix2 r 0) = x (ix2 r L) := by
  show x _ = x _
  congr 1
  have hs : gather_S1024x13_S1024x1x1_S1024x1_n_1_0_0_1_2_11.start (ix2 r 0) k 1 = L.val := by
    show min (k _).toInt.toNat 12 = _
    have e : gather_S1024x13_S1024x1x1_S1024x1_n_1_0_0_1_2_11.siIdx (ix2 r 0) ⟨0, by decide⟩ = ix3 r 0 0 := by
      funext a
      match a with
      | ⟨0, _⟩ => rfl
      | ⟨1, _⟩ => rfl
      | ⟨2, _⟩ => rfl
    have hn : ∀ L : Fin 13, min (BitVec.ofNat 32 L).toInt.toNat 12 = L.val := by decide
    refine Eq.trans ?_ (hn L)
    rw [← hk, ← e]
    rfl
  funext a
  match a with
  | ⟨0, _⟩ => exact Fin.ext (by show 0 + r.val + 0 = r.val; omega)
  | ⟨1, _⟩ => exact Fin.ext (by show gather_S1024x13_S1024x1x1_S1024x1_n_1_0_0_1_2_11.start (ix2 r 0) k 1 + 0 + 0 = L.val; omega)

/-- The cross entropy of a segment with label `L`. -/
theorem ce_at (x : FVec Ideal S1024x13 .f32) (K : IVec S1024 32) (r : Fin 1024) (L : Fin 13) (hK : K (ix1 r) = BitVec.ofNat 32 L) :
    ce x K (ix1 r) = -(logSoftmax x (ix2 r L)) := by
  have hw : wrapped (broadcastInDim S1024x1 ![0] bcast_S1024_S1024x1_0 K) (ix3 r 0 0) = BitVec.ofNat 32 L := by
    have e : wrapped (broadcastInDim S1024x1 ![0] bcast_S1024_S1024x1_0 K) (ix3 r 0 0)
        = Scalar.select (IntOp.cmpi .slt (K (ix1 r)) 0#32) (IntOp.addi (K (ix1 r)) 13#32) (K (ix1 r)) := by
      pointwise [wrapped]
    rw [e, hK]
    clear e hK
    revert L
    decide
  have hi : inRow (wrapped (broadcastInDim S1024x1 ![0] bcast_S1024_S1024x1_0 K)) (ix2 r 0) = 1#1 := by
    generalize wrapped (broadcastInDim S1024x1 ![0] bcast_S1024_S1024x1_0 K) = k at hw
    have e : inRow k (ix2 r 0) = IntOp.andi (IntOp.andi (IntOp.cmpi .sge (k (ix3 r 0 0)) 0#32) (IntOp.cmpi .sle (k (ix3 r 0 0)) 12#32)) 1#1 := by
      pointwise [inRow]
      rfl
    rw [e, hw]
    clear e hw hK
    revert L
    decide
  have e : ce x K (ix1 r) = -(taken (logSoftmax x) (broadcastInDim S1024x1 ![0] bcast_S1024_S1024x1_0 K) (ix2 r 0)) := by
    pointwise [ce]
  rw [e]
  refine congrArg (fun z : EReal => -z) ?_
  show Scalar.select (inRow (wrapped (broadcastInDim S1024x1 ![0] bcast_S1024_S1024x1_0 K)) (ix2 r 0)) _ _ = _
  rw [hi, gather_at _ _ r L hw]
  rfl

/-- The last step: the weighted mean. -/
theorem final_at (lg : FVec Ideal S16x13x256x256 .f32) (e w : FVec Ideal S1024 .f32) :
    final lg e w ix0 = if 0 < ∑ r, w (ix1 r) then Ideal.div (∑ r, e (ix1 r) * w (ix1 r)) (max (∑ r, w (ix1 r)) 1) else 0 := by
  have h : final lg e w ix0 = if 0 < ∑ r, w (ix1 r) then Ideal.div (∑ r, e (ix1 r) * w (ix1 r)) (max (∑ r, w (ix1 r)) 1)
      else Ideal.hostReduceAdd reducesTo_S16x13x256x256_S_d0_1_2_3 lg 0 ix0 * 0 := by
    pointwise [final]
  rw [h, mul_zero]

end Cert.ReferenceIdeal.Val

end
-- ==== Proof.KernelRow.lean ====
/- What the second region computes for one segment. -/
module

public import proofs.«01_k».proof.Proof.KernelRun
public import proofs.«01_k».proof.Proof.Argmax
public import Idealize.ShloMosaic.Lib.Pointwise

@[expose] public section

set_option maxRecDepth 16384

noncomputable section

namespace Cert.KernelIdeal.Val

open Idealize.ShloMosaic Idealize.ShloMosaic.TcCoe Idealize.SL.Sem
open Cert.KernelIdeal Cert.KernelIdeal.Gen Cert.Proof

variable (s h : FVec Ideal S1024x13 .f32) (r : Fin 1024) (k : Fin 13)

/-- The pattern of minus infinity. -/
theorem ofBits_bot : Ideal.ofBits .f32 0xFF800000#32 = ⊥ := by simp [Ideal.ofBits, Ideal.ieee]

/-- The number of pixels of a segment. -/
theorem count_at : k1_pay4 (F := Ideal) h (ix2 r 0) = ∑ x, h (ix2 r x) := by
  pointwise [k1_pay4, k1_pay3]

/-- The mean logits of a segment. -/
theorem mean_at : k1_pay5 (F := Ideal) s h (ix2 r k) = Ideal.div (s (ix2 r k)) (max (∑ x, h (ix2 r x)) 1) := by
  pointwise [k1_pay5, k1_pay4, k1_pay2, k1_pay3]

/-- The logarithm of the sum of the exponentials of a segment's mean logits. -/
theorem lse_at : k1_pay6 (F := Ideal) s h (ix2 r 0)
    = Ideal.log (∑ x, Ideal.exp (k1_pay5 (F := Ideal) s h (ix2 r x)
          - Finset.fold max ⊥ (fun x => k1_pay5 (F := Ideal) s h (ix2 r x)) Finset.univ))
        + Finset.fold max ⊥ (fun x => k1_pay5 (F := Ideal) s h (ix2 r x)) Finset.univ := by
  rw [← ofBits_bot]
  pointwise [k1_pay6]

/-- The mean logits of a segment, kept at the label alone. -/
theorem pick_at (L : Fin 13) (V : Fin 13 → EReal) (hV : ∀ x : Fin 13, V x = if x = 0 then 0 else h (ix2 r x))
    (hL : IsFirstMax (if 0 < ∑ x, V x then V else fun x => h (ix2 r x)) L) :
    k1_pay7 (F := Ideal) s h (ix2 r k)
      = Scalar.select (IntOp.cmpi .eq (BitVec.ofNat 32 k) (BitVec.ofNat 32 L)) (k1_pay5 (F := Ideal) s h (ix2 r k)) 0 := by
  have hv : ∀ x : Fin 13, Scalar.select (IntOp.cmpi .eq (BitVec.ofNat 32 x) 0#32) 0 (h (ix2 r x)) = V x := fun x => by
    rw [hV]
    have hn : BitVec.ofNat 32 x = 0#32 ↔ x = 0 := by revert x; decide
    unfold Scalar.select
    exact if_congr (IntOp.cmpi_eq.trans hn) rfl rfl
  have hr : ∀ x : Fin 13, (if 0 < ∑ x, V x then V else fun x => h (ix2 r x)) x = if 0 < ∑ x, V x then V x else h (ix2 r x) := fun x => by
    split <;> rfl
  have hl := min_label _ L hL
  simp only [hr] at hl
  rw [← hl]
  simp only [← hv, ← ofBits_bot]
  pointwise [k1_pay7, k1_pay3]

/-- A bit read as a number, signed after widening or unsigned: one or zero. -/
theorem bit_eq (b : BitVec 1) : FloatOps.sitofp (F := Ideal) .f32 (BitVec.setWidth 32 b) = FloatOps.uitofp (F := Ideal) .f32 b := by
  have hb : ∀ b : BitVec 1, (BitVec.setWidth 32 b).toInt = (b.toNat : ℤ) := by decide
  show (((BitVec.setWidth 32 b).toInt : ℝ) : EReal) = ((b.toNat : ℝ) : EReal)
  rw [hb, Int.cast_natCast]

/-- The last step: the weighted mean. -/
theorem final_at (s0 : FVec Ideal S1024x13 .f32) (n e : FVec Ideal S1024x1 .f32) (p : FVec Ideal S1024x13 .f32)
    (w : Fin 1024 → EReal) (hw : ∀ r : Fin 1024, w r = FloatOps.uitofp (F := Ideal) .f32
      (IntOp.andi (BitVec.ofBool (decide (0 < n (ix2 r 0)))) (IntOp.cmpi .ne (IntOp.andi (BitVec.ofNat 32 r) 63#32) 0#32))) :
    k1_pay1 (F := Ideal) s0 n e p (ix2 0 0)
      = if 0 < ∑ r, w r then Ideal.div (∑ r, (e (ix2 r 0) - ∑ x, p (ix2 r x)) * w r) (max (∑ r, w r) 1) else 0 := by
  have hw' : ∀ r : Fin 1024, FloatOps.sitofp (F := Ideal) .f32 (BitVec.setWidth 32
      (IntOp.andi (BitVec.ofBool (decide (0 < n (ix2 r 0)))) (IntOp.cmpi .ne (IntOp.andi (BitVec.ofNat 32 r) 63#32) 0#32))) = w r :=
    fun r => (bit_eq _).trans (hw r).symm
  pointwise [k1_pay1]
  simp only [hw', Fin.sum_univ_one, mul_zero]

end Cert.KernelIdeal.Val

end
-- ==== Proof.Equation.lean ====
/- The equation: on finite logits, labels below 13 and field ids below 64, the kernel's cell is the reference's result. -/
module

public import proofs.«01_k».proof.Proof.Segments
public import proofs.«01_k».proof.Proof.RowMath
public import proofs.«01_k».proof.Proof.RefRow
public import proofs.«01_k».proof.Proof.KernelRow

@[expose] public section

set_option maxRecDepth 16384

noncomputable section

namespace Cert.Proof

open Idealize.ShloMosaic Idealize.ShloMosaic.TcCoe
open Cert.KernelIdeal (S16x64x13)
open Cert.ReferenceIdeal (S16x13x256x256 S16x256x256 S1024x13 S1024 S_)
open Cert.KernelIdeal.Val (fieldSums fieldHist cell)
open Cert.KernelIdeal.Gen (k1_pay2 k1_pay4 k1_pay5 k1_pay6 k1_pay7)
open Cert.ReferenceIdeal.Val (sums counts hist mean label ce weight outv validHist argmax)

/-- The sums of finite logits are finite. -/
theorem sums_finite (lg : FVec Ideal S16x13x256x256 .f32) (f : IVec S16x256x256 32) (hlg : ∀ i, lg i ≠ ⊥ ∧ lg i ≠ ⊤)
    (r : Fin 1024) (k : Fin 13) : Finite (sums lg f (ix2 r k)) := by
  rw [Cert.ReferenceIdeal.Val.sums_at]
  refine Finite.sum _ _ fun n => ?_
  split
  · rw [Cert.ReferenceIdeal.Val.rows_at]
    exact Finite.of_ne (hlg _)
  · exact Finite.zero

/-- The numbers of pixels are finite. -/
theorem counts_finite (f : IVec S16x256x256 32) (r : Fin 1024) : Finite (counts f (ix1 r)) := by
  rw [Cert.ReferenceIdeal.Val.counts_at]
  refine Finite.sum _ _ fun n => ?_
  split
  · exact Finite.one
  · exact Finite.zero

/-- A segment's cross entropy in the kernel is the one in the reference, when both read the same sums and histograms. -/
theorem ce_eq (s h : FVec Ideal S1024x13 .f32) (n : FVec Ideal S1024 .f32) (r : Fin 1024)
    (hs : ∀ k, Finite (s (ix2 r k))) (hnf : Finite (n (ix1 r))) (hn : n (ix1 r) = ∑ k : Fin 13, h (ix2 r k)) :
    k1_pay6 (F := Ideal) s h (ix2 r 0) - ∑ k : Fin 13, k1_pay7 (F := Ideal) s h (ix2 r k) = ce (mean s n) (label h) (ix1 r) := by
  have hV : ∀ x : Fin 13, validHist h (ix2 r x) = if x = 0 then 0 else h (ix2 r x) := fun x => Cert.ReferenceIdeal.Val.validHist_at h r x
  obtain ⟨L, hL⟩ := exists_firstMax (if 0 < ∑ x : Fin 13, validHist h (ix2 r x) then (fun x => validHist h (ix2 r x)) else fun x => h (ix2 r x))
  have hlab : label h (ix1 r) = BitVec.ofNat 32 L := by
    rw [Cert.ReferenceIdeal.Val.label_at]
    by_cases hp : 0 < ∑ x : Fin 13, validHist h (ix2 r x)
    · rw [if_pos hp] at hL ⊢
      exact Cert.ReferenceIdeal.Val.argmax_at _ r L hL
    · rw [if_neg hp] at hL ⊢
      exact Cert.ReferenceIdeal.Val.argmax_at _ r L hL
  have hm : ∀ k : Fin 13, k1_pay5 (F := Ideal) s h (ix2 r k) = mean s n (ix2 r k) := fun k => by
    rw [Cert.ReferenceIdeal.Val.mean_at, hn]
    exact Cert.KernelIdeal.Val.mean_at s h r k
  have hmf : ∀ k : Fin 13, Finite (mean s n (ix2 r k)) := fun k => by
    rw [Cert.ReferenceIdeal.Val.mean_at]
    exact (hs k).div_max hnf
  have hp : ∀ k : Fin 13, k1_pay7 (F := Ideal) s h (ix2 r k)
      = Scalar.select (IntOp.cmpi .eq (BitVec.ofNat 32 k) (BitVec.ofNat 32 L)) (mean s n (ix2 r k)) 0 := fun k => by
    rw [← hm k]
    exact Cert.KernelIdeal.Val.pick_at s h r k L _ hV hL
  have hl := Cert.KernelIdeal.Val.lse_at s h r
  simp only [hm] at hl
  rw [Cert.ReferenceIdeal.Val.ce_at _ _ r L hlab, Cert.ReferenceIdeal.Val.logSoftmax_at]
  refine Eq.trans ?_ (ce_row (fun k => mean s n (ix2 r k)) hmf L).symm
  refine congr (congrArg HSub.hSub hl) ?_
  refine (Finset.sum_congr rfl fun k _ => hp k).trans ?_
  exact sum_select (fun k => mean s n (ix2 r k)) L

/-- The kernel's arrays, by rows, are the reference's. -/
theorem rows_eq (x : FVec Ideal S16x64x13 .f32) (y : FVec Ideal S1024x13 .f32) (h : S16x64x13.ShapeCasts S1024x13)
    (e : ∀ (b : Fin 16) (a : Fin 64) (k : Fin 13), y (ix2 (row b a) k) = x (ix3 b a k)) : shapeCast S1024x13 x h = y := by
  funext j
  obtain ⟨r, k, rfl⟩ : ∃ (r : Fin 1024) (k : Fin 13), j = ix2 r k := ⟨j 0, j 1, eq_ix2 j⟩
  have hr : row ⟨r.val / 64, by omega⟩ ⟨r.val % 64, by omega⟩ = r := Fin.ext (by show 64 * (r.val / 64) + r.val % 64 = r.val; omega)
  have he := e ⟨r.val / 64, by omega⟩ ⟨r.val % 64, by omega⟩ k
  rw [hr] at he
  rw [he]
  refine shapeCast_apply x h _ _ ?_
  refine (Shape.rowMajor_val_three _).trans (Eq.trans ?_ (Shape.rowMajor_val_two _).symm)
  show (r.val / 64 * 64 + r.val % 64) * 13 + k.val = r.val * 13 + k.val
  omega

/-- The kernel's cell, as a scalar, is the reference's result. -/
theorem cell_eq (lg : FVec Ideal S16x13x256x256 .f32) (l f : IVec S16x256x256 32) (hlg : ∀ i, lg i ≠ ⊥ ∧ lg i ≠ ⊤)
    (hl : ∀ i, (l i).toNat < 13) (hf : ∀ i, (f i).toNat < 64) :
    shapeCast S_ (cell (F := Ideal)
        (shapeCast S1024x13 (fieldSums lg f) Cert.KernelIdeal.Facts₀.shapeCasts_S16x64x13_S1024x13)
        (shapeCast S1024x13 (fieldHist f l) Cert.KernelIdeal.Facts₀.shapeCasts_S16x64x13_S1024x13))
      Cert.KernelIdeal.Facts₀.shapeCasts_S1x1_S_ = outv lg l f := by
  rw [rows_eq _ (sums lg f) _ fun b a k => sums_eq lg f hf b a k, rows_eq _ (hist f l) _ fun b a k => hist_eq f l hf hl b a k]
  funext j
  obtain rfl : j = ix0 := funext fun i => i.elim0
  refine (shapeCast_apply _ _ ix0 (ix2 (0 : Fin 1) (0 : Fin 1)) (by rfl)).trans ?_
  have hn := counts_eq f l hl hf
  have hw : ∀ r : Fin 1024, weight (counts f) (ix1 r) = FloatOps.uitofp (F := Ideal) .f32
      (IntOp.andi (BitVec.ofBool (decide (0 < k1_pay4 (F := Ideal) (hist f l) (ix2 r 0))))
        (IntOp.cmpi .ne (IntOp.andi (BitVec.ofNat 32 r) 63#32) 0#32)) := fun r => by
    have hk : k1_pay4 (F := Ideal) (hist f l) (ix2 r 0) = counts f (ix1 r) := (Cert.KernelIdeal.Val.count_at (hist f l) r).trans (hn r).symm
    rw [Cert.ReferenceIdeal.Val.weight_at, Cert.ReferenceIdeal.Val.fieldOf_at, hk]
  refine (Cert.KernelIdeal.Val.final_at _ _ _ _ _ hw).trans ?_
  refine Eq.trans ?_ (Cert.ReferenceIdeal.Val.final_at lg _ _).symm
  have hc : ∀ r : Fin 1024, _ := fun r => ce_eq (sums lg f) (hist f l) (counts f) r (sums_finite lg f hlg r) (counts_finite f r) (hn r)
  have e : ∀ a b c : EReal, a = b → (if 0 < c then Ideal.div a (max c 1) else 0) = if 0 < c then Ideal.div b (max c 1) else 0 :=
    fun a b c h => by rw [h]
  exact e _ _ _ (Finset.sum_congr rfl fun r _ => congrArg (· * weight (counts f) (ix1 r)) (hc r))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.Drawn
public import proofs.«01_k».proof.Proof.Equation

public import Idealize.ShloMosaic.Adequacy
public import Idealize.ShloMosaic.Init

@[expose] public section

noncomputable section

namespace Cert.Proof

open Idealize.ShloMosaic Idealize.SL.Sem Cert.Kernel

/-- On finite logits, labels below 13 and field ids below 64 the kernel's result and the reference's agree. -/
theorem algebraic : Cert.algebraic_KernelIdeal_ReferenceIdeal_pre_drawn (hKernelIdeal := Cert.KernelIdeal.Gen.facts)
    (hReferenceIdeal := Cert.ReferenceIdeal.Gen.facts) (hPre_drawn := Cert.Pre_drawn.Gen.facts) := by
  intro m g m' g' hpre hagree
  refine ⟨fun c => Cert.KernelIdeal.Gen.W4 m g c (Idealize.ShloMosaic.Proc.devRef .tc Cert.KernelIdeal.main_v4),
    Cert.KernelIdeal.Val.run_result m g, θ_run_mono (Cert.ReferenceIdeal.Val.run m' g') fun r hr c => ⟨?_, (hr c).2⟩⟩
  obtain ⟨hlg, hl, hf⟩ := Cert.Pre_drawn.spec _ _ _ (hpre c)
  have hk := Cert.KernelIdeal.Val.W4_result m g c
  rw [Cert.KernelIdeal.Val.sums_arr, Cert.KernelIdeal.Val.hist_arr] at hk
  rw [(hr c).1, (hagree c).1, (hagree c).2.1, (hagree c).2.2]
  exact (hk.trans (cell_eq _ _ _ hlg hl hf)).symm

/-- Every claim. -/
theorem claim : Cert.Claim := ⟨Cert.Kernel.Gen.facts, Cert.KernelIdeal.Gen.facts, Cert.ReferenceIdeal.Gen.facts, Cert.Pre_drawn.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Val.frame m ρ, fun m ρ _ => Cert.ReferenceIdeal.Val.frame m ρ, trivial, algebraic⟩

end Cert.Proof

end
